-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x64x1x160000 : Shape := ⟨4, ![2, 64, 1, 160000]⟩
abbrev S128x160000 : Shape := ⟨2, ![128, 160000]⟩
abbrev S_ : Shape := ⟨0, ![]⟩
abbrev S1x160000 : Shape := ⟨2, ![1, 160000]⟩
abbrev S160000 : Shape := ⟨1, ![160000]⟩

abbrev nBuf : Table → Nat
  | .hbm => 4
  | _ => 0

abbrev bufTy : (tb : Table) → Fin (nBuf tb) → BufTy
  | .hbm, ⟨0, _⟩ => ⟨S2x64x1x160000, .f32⟩
  | .hbm, ⟨1, _⟩ => ⟨S128x160000, .f32⟩
  | .hbm, ⟨2, _⟩ => ⟨S128x160000, .f32⟩
  | .hbm, ⟨3, _⟩ => ⟨S2x64x1x160000, .f32⟩
  | _, _ => ⟨S2x64x1x160000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x64x1x160000 : Shape := ⟨4, ![2, 64, 1, 160000]⟩
abbrev S1x64x1x160000 : Shape := ⟨4, ![1, 64, 1, 160000]⟩
abbrev S64x1x160000 : Shape := ⟨3, ![64, 1, 160000]⟩
abbrev S_ : Shape := ⟨0, ![]⟩
abbrev S1 : Shape := ⟨1, ![1]⟩
abbrev S2 : Shape := ⟨1, ![2]⟩
abbrev S64 : Shape := ⟨1, ![64]⟩
abbrev S64x1 : Shape := ⟨2, ![64, 1]⟩
abbrev S1x1 : Shape := ⟨2, ![1, 1]⟩

abbrev nBuf : Space → Nat
  | .hbm => 303
  | .vmem => 0
  | .smem => 0
  | _ => 0

abbrev hbmTy0_0 (i : Nat) : BufTy := match i % 128 with
  | 0 => ⟨S2x64x1x160000, .f32⟩
  | 1 => ⟨S1x64x1x160000, .f32⟩
  | 2 => ⟨S64x1x160000, .f32⟩
  | 3 => ⟨S1x64x1x160000, .f32⟩
  | 4 => ⟨S64x1x160000, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S1, .i32⟩
  | 22 => ⟨S_, .i32⟩
  | 23 => ⟨S1, .i32⟩
  | 24 => ⟨S_, .i32⟩
  | 25 => ⟨S64, .i64⟩
  | 26 => ⟨S_, .i64⟩
  | 27 => ⟨S64, .i64⟩
  | 28 => ⟨S64, .i64⟩
  | 29 => ⟨S_, .i64⟩
  | 30 => ⟨S64, .i64⟩
  | 31 => ⟨S64, .i64⟩
  | 32 => ⟨S64, .i32⟩
  | 33 => ⟨S64, .i32⟩
  | 34 => ⟨S_, .i32⟩
  | 35 => ⟨S_, .i32⟩
  | 36 => ⟨S_, .i32⟩
  | 37 => ⟨S64, .i32⟩
  | 38 => ⟨S64, .i32⟩
  | 39 => ⟨S64, .i32⟩
  | 40 => ⟨S64, .i32⟩
  | 41 => ⟨S64, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S64, .i32⟩
  | 49 => ⟨S64, .i32⟩
  | 50 => ⟨S64, .i32⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S64, .i32⟩
  | 58 => ⟨S64, .i32⟩
  | 59 => ⟨S64, .i32⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S64, .i32⟩
  | 67 => ⟨S64, .i32⟩
  | 68 => ⟨S64, .i32⟩
  | 69 => ⟨S_, .i32⟩
  | 70 => ⟨S64, .i32⟩
  | 71 => ⟨S64, .i32⟩
  | 72 => ⟨S_, .i32⟩
  | 73 => ⟨S64, .i32⟩
  | 74 => ⟨S64, .i32⟩
  | 75 => ⟨S64, .i32⟩
  | 76 => ⟨S64, .i32⟩
  | 77 => ⟨S64, .i32⟩
  | 78 => ⟨S64, .i32⟩
  | 79 => ⟨S64, .i32⟩
  | 80 => ⟨S64, .i32⟩
  | 81 => ⟨S_, .i32⟩
  | 82 => ⟨S64, .i32⟩
  | 83 => ⟨S64, .i32⟩
  | 84 => ⟨S64, .i32⟩
  | 85 => ⟨S_, .i32⟩
  | 86 => ⟨S64, .i32⟩
  | 87 => ⟨S64, .i32⟩
  | 88 => ⟨S_, .i32⟩
  | 89 => ⟨S64, .i32⟩
  | 90 => ⟨S64, .i32⟩
  | 91 => ⟨S64, .i32⟩
  | 92 => ⟨S64, .i32⟩
  | 93 => ⟨S64, .i32⟩
  | 94 => ⟨S_, .i32⟩
  | 95 => ⟨S64, .i32⟩
  | 96 => ⟨S64, .i32⟩
  | 97 => ⟨S_, .i32⟩
  | 98 => ⟨S64, .i32⟩
  | 99 => ⟨S64, .i32⟩
  | 100 => ⟨S64, .i32⟩
  | 101 => ⟨S64, .i32⟩
  | 102 => ⟨S64, .i32⟩
  | 103 => ⟨S_, .i32⟩
  | 104 => ⟨S64, .i32⟩
  | 105 => ⟨S64, .i32⟩
  | 106 => ⟨S_, .i32⟩
  | 107 => ⟨S64, .i32⟩
  | 108 => ⟨S64, .i32⟩
  | 109 => ⟨S64, .i32⟩
  | 110 => ⟨S64, .i32⟩
  | 111 => ⟨S64, .i32⟩
  | 112 => ⟨S_, .i32⟩
  | 113 => ⟨S64, .i32⟩
  | 114 => ⟨S64, .i32⟩
  | 115 => ⟨S_, .i32⟩
  | 116 => ⟨S64, .i32⟩
  | 117 => ⟨S64, .i32⟩
  | 118 => ⟨S64, .i32⟩
  | 119 => ⟨S64, .i32⟩
  | 120 => ⟨S64, .i32⟩
  | 121 => ⟨S64, .i32⟩
  | 122 => ⟨S64, .i32⟩
  | 123 => ⟨S64, .i32⟩
  | 124 => ⟨S_, .i32⟩
  | 125 => ⟨S64, .i32⟩
  | 126 => ⟨S64, .i32⟩
  | 127 => ⟨S64, .i32⟩
  | _ => ⟨S2x64x1x160000, .f32⟩

abbrev hbmTy0_1 (i : Nat) : BufTy := match i % 128 with
  | 0 => ⟨S_, .i32⟩
  | 1 => ⟨S64, .i32⟩
  | 2 => ⟨S64, .i32⟩
  | 3 => ⟨S_, .i32⟩
  | 4 => ⟨S64, .i32⟩
  | 5 => ⟨S64, .i32⟩
  | 6 => ⟨S64, .i32⟩
  | 7 => ⟨S64, .i32⟩
  | 8 => ⟨S64, .i32⟩
  | 9 => ⟨S_, .i32⟩
  | 10 => ⟨S64, .i32⟩
  | 11 => ⟨S64, .i32⟩
  | 12 => ⟨S_, .i32⟩
  | 13 => ⟨S64, .i32⟩
  | 14 => ⟨S64, .i32⟩
  | 15 => ⟨S64, .i32⟩
  | 16 => ⟨S64, .i32⟩
  | 17 => ⟨S64, .i32⟩
  | 18 => ⟨S_, .i32⟩
  | 19 => ⟨S64, .i32⟩
  | 20 => ⟨S64, .i32⟩
  | 21 => ⟨S_, .i32⟩
  | 22 => ⟨S64, .i32⟩
  | 23 => ⟨S64, .i32⟩
  | 24 => ⟨S64, .i32⟩
  | 25 => ⟨S64, .i32⟩
  | 26 => ⟨S64, .i32⟩
  | 27 => ⟨S_, .i32⟩
  | 28 => ⟨S64, .i32⟩
  | 29 => ⟨S64, .i32⟩
  | 30 => ⟨S_, .i32⟩
  | 31 => ⟨S64, .i32⟩
  | 32 => ⟨S64, .i32⟩
  | 33 => ⟨S64, .i32⟩
  | 34 => ⟨S64, .i32⟩
  | 35 => ⟨S64, .i32⟩
  | 36 => ⟨S64, .i32⟩
  | 37 => ⟨S64, .i32⟩
  | 38 => ⟨S64, .i32⟩
  | 39 => ⟨S_, .i32⟩
  | 40 => ⟨S64, .i32⟩
  | 41 => ⟨S64, .i32⟩
  | 42 => ⟨S64, .i32⟩
  | 43 => ⟨S_, .i32⟩
  | 44 => ⟨S64, .i32⟩
  | 45 => ⟨S64, .i32⟩
  | 46 => ⟨S_, .i32⟩
  | 47 => ⟨S64, .i32⟩
  | 48 => ⟨S64, .i32⟩
  | 49 => ⟨S64, .i32⟩
  | 50 => ⟨S64, .i32⟩
  | 51 => ⟨S64, .i32⟩
  | 52 => ⟨S_, .i32⟩
  | 53 => ⟨S64, .i32⟩
  | 54 => ⟨S64, .i32⟩
  | 55 => ⟨S_, .i32⟩
  | 56 => ⟨S64, .i32⟩
  | 57 => ⟨S64, .i32⟩
  | 58 => ⟨S64, .i32⟩
  | 59 => ⟨S64, .i32⟩
  | 60 => ⟨S64, .i32⟩
  | 61 => ⟨S_, .i32⟩
  | 62 => ⟨S64, .i32⟩
  | 63 => ⟨S64, .i32⟩
  | 64 => ⟨S_, .i32⟩
  | 65 => ⟨S64, .i32⟩
  | 66 => ⟨S64, .i32⟩
  | 67 => ⟨S64, .i32⟩
  | 68 => ⟨S64, .i32⟩
  | 69 => ⟨S64, .i32⟩
  | 70 => ⟨S_, .i32⟩
  | 71 => ⟨S64, .i32⟩
  | 72 => ⟨S64, .i32⟩
  | 73 => ⟨S_, .i32⟩
  | 74 => ⟨S64, .i32⟩
  | 75 => ⟨S64, .i32⟩
  | 76 => ⟨S64, .i32⟩
  | 77 => ⟨S64, .i32⟩
  | 78 => ⟨S64, .i32⟩
  | 79 => ⟨S64, .i32⟩
  | 80 => ⟨S64, .i32⟩
  | 81 => ⟨S64, .i32⟩
  | 82 => ⟨S_, .i32⟩
  | 83 => ⟨S64, .i32⟩
  | 84 => ⟨S64, .i32⟩
  | 85 => ⟨S64, .i32⟩
  | 86 => ⟨S_, .i32⟩
  | 87 => ⟨S64, .i32⟩
  | 88 => ⟨S64, .i32⟩
  | 89 => ⟨S_, .i32⟩
  | 90 => ⟨S64, .i32⟩
  | 91 => ⟨S64, .i32⟩
  | 92 => ⟨S64, .i32⟩
  | 93 => ⟨S64, .i32⟩
  | 94 => ⟨S64, .i32⟩
  | 95 => ⟨S_, .i32⟩
  | 96 => ⟨S64, .i32⟩
  | 97 => ⟨S64, .i32⟩
  | 98 => ⟨S_, .i32⟩
  | 99 => ⟨S64, .i32⟩
  | 100 => ⟨S64, .i32⟩
  | 101 => ⟨S64, .i32⟩
  | 102 => ⟨S64, .i32⟩
  | 103 => ⟨S64, .i32⟩
  | 104 => ⟨S_, .i32⟩
  | 105 => ⟨S64, .i32⟩
  | 106 => ⟨S64, .i32⟩
  | 107 => ⟨S_, .i32⟩
  | 108 => ⟨S64, .i32⟩
  | 109 => ⟨S64, .i32⟩
  | 110 => ⟨S64, .i32⟩
  | 111 => ⟨S64, .i32⟩
  | 112 => ⟨S64, .i32⟩
  | 113 => ⟨S_, .i32⟩
  | 114 => ⟨S64, .i32⟩
  | 115 => ⟨S64, .i32⟩
  | 116 => ⟨S_, .i32⟩
  | 117 => ⟨S64, .i32⟩
  | 118 => ⟨S64, .i32⟩
  | 119 => ⟨S64, .i32⟩
  | 120 => ⟨S64, .i32⟩
  | 121 => ⟨S64, .i32⟩
  | 122 => ⟨S64, .i32⟩
  | 123 => ⟨S64, .i32⟩
  | 124 => ⟨S64, .i32⟩
  | 125 => ⟨S_, .i32⟩
  | 126 => ⟨S64, .i32⟩
  | 127 => ⟨S64, .i32⟩
  | _ => ⟨S2x64x1x160000, .f32⟩

abbrev hbmTy0_2 (i : Nat) : BufTy := match i % 128 with
  | 0 => ⟨S64, .i32⟩
  | 1 => ⟨S_, .i32⟩
  | 2 => ⟨S64, .i32⟩
  | 3 => ⟨S64, .i32⟩
  | 4 => ⟨S_, .i32⟩
  | 5 => ⟨S64, .i32⟩
  | 6 => ⟨S64, .i32⟩
  | 7 => ⟨S64, .f32⟩
  | 8 => ⟨S_, .f32⟩
  | 9 => ⟨S64, .f32⟩
  | 10 => ⟨S64, .f32⟩
  | 11 => ⟨S1, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .i32⟩
  | 19 => ⟨S64, .f32⟩
  | 20 => ⟨S64, .i32⟩
  | 21 => ⟨S_, .i32⟩
  | 22 => ⟨S64, .i32⟩
  | 23 => ⟨S64, .i1⟩
  | 24 => ⟨S_, .i32⟩
  | 25 => ⟨S64, .i32⟩
  | 26 => ⟨S64, .i32⟩
  | 27 => ⟨S64, .i32⟩
  | 28 => ⟨S64x1, .i32⟩
  | 29 => ⟨S1, .i32⟩
  | 30 => ⟨S_, .i32⟩
  | 31 => ⟨S64x1, .i32⟩
  | 32 => ⟨S64x1, .i1⟩
  | 33 => ⟨S1x1, .i32⟩
  | 34 => ⟨S64x1, .i32⟩
  | 35 => ⟨S64x1, .i1⟩
  | 36 => ⟨S64x1, .i1⟩
  | 37 => ⟨S_, .i1⟩
  | 38 => ⟨S64, .i1⟩
  | 39 => ⟨S64x1x160000, .f32⟩
  | 40 => ⟨S64x1x160000, .i1⟩
  | 41 => ⟨S_, .f32⟩
  | 42 => ⟨S64x1x160000, .f32⟩
  | 43 => ⟨S64x1x160000, .f32⟩
  | 44 => ⟨S1x64x1x160000, .f32⟩
  | 45 => ⟨S1x64x1x160000, .f32⟩
  | 46 => ⟨S2x64x1x160000, .f32⟩
  | _ => ⟨S2x64x1x160000, .f32⟩

abbrev hbmTy (i : Nat) : BufTy := match i / 128 with
  | 0 => hbmTy0_0 i
  | 1 => hbmTy0_1 i
  | 2 => hbmTy0_2 i
  | _ => ⟨S2x64x1x160000, .f32⟩

abbrev bufTy : (tb : Table) → Fin (tcTables nBuf tb) → BufTy
  | .hbm, ⟨i, _⟩ => hbmTy i
  | _, _ => ⟨S2x64x1x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_c_0 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_call0_v0 : Ref sig .tc := ⟨.hbm, 34, rfl⟩
abbrev main_call0_call0_c : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_c_0 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_c_1 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_call0_v12 : Ref sig .tc := ⟨.hbm, 49, rfl⟩
abbrev main_call0_call0_v13 : Ref sig .tc := ⟨.hbm, 50, rfl⟩
abbrev main_call0_call0_c_2 : Ref sig .tc := ⟨.hbm, 51, rfl⟩
abbrev main_call0_call0_v14 : Ref sig .tc := ⟨.hbm, 52, rfl⟩
abbrev main_call0_call0_v15 : Ref sig .tc := ⟨.hbm, 53, rfl⟩
abbrev main_call0_call0_c_3 : Ref sig .tc := ⟨.hbm, 54, rfl⟩
abbrev main_call0_call0_v16 : Ref sig .tc := ⟨.hbm, 55, rfl⟩
abbrev main_call0_call0_v17 : Ref sig .tc := ⟨.hbm, 56, rfl⟩
abbrev main_call0_call0_v18 : Ref sig .tc := ⟨.hbm, 57, rfl⟩
abbrev main_call0_call0_v19 : Ref sig .tc := ⟨.hbm, 58, rfl⟩
abbrev main_call0_call0_v20 : Ref sig .tc := ⟨.hbm, 59, rfl⟩
abbrev main_call0_call0_c_4 : Ref sig .tc := ⟨.hbm, 60, rfl⟩
abbrev main_call0_call0_v21 : Ref sig .tc := ⟨.hbm, 61, rfl⟩
abbrev main_call0_call0_v22 : Ref sig .tc := ⟨.hbm, 62, rfl⟩
abbrev main_call0_call0_c_5 : Ref sig .tc := ⟨.hbm, 63, rfl⟩
abbrev main_call0_call0_v23 : Ref sig .tc := ⟨.hbm, 64, rfl⟩
abbrev main_call0_call0_v24 : Ref sig .tc := ⟨.hbm, 65, rfl⟩
abbrev main_call0_call0_v25 : Ref sig .tc := ⟨.hbm, 66, rfl⟩
abbrev main_call0_call0_v26 : Ref sig .tc := ⟨.hbm, 67, rfl⟩
abbrev main_call0_call0_v27 : Ref sig .tc := ⟨.hbm, 68, rfl⟩
abbrev main_call0_call0_c_6 : Ref sig .tc := ⟨.hbm, 69, rfl⟩
abbrev main_call0_call0_v28 : Ref sig .tc := ⟨.hbm, 70, rfl⟩
abbrev main_call0_call0_v29 : Ref sig .tc := ⟨.hbm, 71, rfl⟩
abbrev main_call0_call0_c_7 : Ref sig .tc := ⟨.hbm, 72, rfl⟩
abbrev main_call0_call0_v30 : Ref sig .tc := ⟨.hbm, 73, rfl⟩
abbrev main_call0_call0_v31 : Ref sig .tc := ⟨.hbm, 74, rfl⟩
abbrev main_call0_call0_v32 : Ref sig .tc := ⟨.hbm, 75, rfl⟩
abbrev main_call0_call0_v33 : Ref sig .tc := ⟨.hbm, 76, rfl⟩
abbrev main_call0_call0_v34 : Ref sig .tc := ⟨.hbm, 77, rfl⟩
abbrev main_call0_call0_v35 : Ref sig .tc := ⟨.hbm, 78, rfl⟩
abbrev main_call0_call0_v36 : Ref sig .tc := ⟨.hbm, 79, rfl⟩
abbrev main_call0_call0_v37 : Ref sig .tc := ⟨.hbm, 80, rfl⟩
abbrev main_call0_call0_c_8 : Ref sig .tc := ⟨.hbm, 81, rfl⟩
abbrev main_call0_call0_v38 : Ref sig .tc := ⟨.hbm, 82, rfl⟩
abbrev main_call0_call0_v39 : Ref sig .tc := ⟨.hbm, 83, rfl⟩
abbrev main_call0_call0_v40 : Ref sig .tc := ⟨.hbm, 84, rfl⟩
abbrev main_call0_call0_c_9 : Ref sig .tc := ⟨.hbm, 85, rfl⟩
abbrev main_call0_call0_v41 : Ref sig .tc := ⟨.hbm, 86, rfl⟩
abbrev main_call0_call0_v42 : Ref sig .tc := ⟨.hbm, 87, rfl⟩
abbrev main_call0_call0_c_10 : Ref sig .tc := ⟨.hbm, 88, rfl⟩
abbrev main_call0_call0_v43 : Ref sig .tc := ⟨.hbm, 89, rfl⟩
abbrev main_call0_call0_v44 : Ref sig .tc := ⟨.hbm, 90, rfl⟩
abbrev main_call0_call0_v45 : Ref sig .tc := ⟨.hbm, 91, rfl⟩
abbrev main_call0_call0_v46 : Ref sig .tc := ⟨.hbm, 92, rfl⟩
abbrev main_call0_call0_v47 : Ref sig .tc := ⟨.hbm, 93, rfl⟩
abbrev main_call0_call0_c_11 : Ref sig .tc := ⟨.hbm, 94, rfl⟩
abbrev main_call0_call0_v48 : Ref sig .tc := ⟨.hbm, 95, rfl⟩
abbrev main_call0_call0_v49 : Ref sig .tc := ⟨.hbm, 96, rfl⟩
abbrev main_call0_call0_c_12 : Ref sig .tc := ⟨.hbm, 97, rfl⟩
abbrev main_call0_call0_v50 : Ref sig .tc := ⟨.hbm, 98, rfl⟩
abbrev main_call0_call0_v51 : Ref sig .tc := ⟨.hbm, 99, rfl⟩
abbrev main_call0_call0_v52 : Ref sig .tc := ⟨.hbm, 100, rfl⟩
abbrev main_call0_call0_v53 : Ref sig .tc := ⟨.hbm, 101, rfl⟩
abbrev main_call0_call0_v54 : Ref sig .tc := ⟨.hbm, 102, rfl⟩
abbrev main_call0_call0_c_13 : Ref sig .tc := ⟨.hbm, 103, rfl⟩
abbrev main_call0_call0_v55 : Ref sig .tc := ⟨.hbm, 104, rfl⟩
abbrev main_call0_call0_v56 : Ref sig .tc := ⟨.hbm, 105, rfl⟩
abbrev main_call0_call0_c_14 : Ref sig .tc := ⟨.hbm, 106, rfl⟩
abbrev main_call0_call0_v57 : Ref sig .tc := ⟨.hbm, 107, rfl⟩
abbrev main_call0_call0_v58 : Ref sig .tc := ⟨.hbm, 108, rfl⟩
abbrev main_call0_call0_v59 : Ref sig .tc := ⟨.hbm, 109, rfl⟩
abbrev main_call0_call0_v60 : Ref sig .tc := ⟨.hbm, 110, rfl⟩
abbrev main_call0_call0_v61 : Ref sig .tc := ⟨.hbm, 111, rfl⟩
abbrev main_call0_call0_c_15 : Ref sig .tc := ⟨.hbm, 112, rfl⟩
abbrev main_call0_call0_v62 : Ref sig .tc := ⟨.hbm, 113, rfl⟩
abbrev main_call0_call0_v63 : Ref sig .tc := ⟨.hbm, 114, rfl⟩
abbrev main_call0_call0_c_16 : Ref sig .tc := ⟨.hbm, 115, rfl⟩
abbrev main_call0_call0_v64 : Ref sig .tc := ⟨.hbm, 116, rfl⟩
abbrev main_call0_call0_v65 : Ref sig .tc := ⟨.hbm, 117, rfl⟩
abbrev main_call0_call0_v66 : Ref sig .tc := ⟨.hbm, 118, rfl⟩
abbrev main_call0_call0_v67 : Ref sig .tc := ⟨.hbm, 119, rfl⟩
abbrev main_call0_call0_v68 : Ref sig .tc := ⟨.hbm, 120, rfl⟩
abbrev main_call0_call0_v69 : Ref sig .tc := ⟨.hbm, 121, rfl⟩
abbrev main_call0_call0_v70 : Ref sig .tc := ⟨.hbm, 122, rfl⟩
abbrev main_call0_call0_v71 : Ref sig .tc := ⟨.hbm, 123, rfl⟩
abbrev main_call0_call0_c_17 : Ref sig .tc := ⟨.hbm, 124, rfl⟩
abbrev main_call0_call0_v72 : Ref sig .tc := ⟨.hbm, 125, rfl⟩
abbrev main_call0_call0_v73 : Ref sig .tc := ⟨.hbm, 126, rfl⟩
abbrev main_call0_call0_v74 : Ref sig .tc := ⟨.hbm, 127, rfl⟩
abbrev main_call0_call0_c_18 : Ref sig .tc := ⟨.hbm, 128, rfl⟩
abbrev main_call0_call0_v75 : Ref sig .tc := ⟨.hbm, 129, rfl⟩
abbrev main_call0_call0_v76 : Ref sig .tc := ⟨.hbm, 130, rfl⟩
abbrev main_call0_call0_c_19 : Ref sig .tc := ⟨.hbm, 131, rfl⟩
abbrev main_call0_call0_v77 : Ref sig .tc := ⟨.hbm, 132, rfl⟩
abbrev main_call0_call0_v78 : Ref sig .tc := ⟨.hbm, 133, rfl⟩
abbrev main_call0_call0_v79 : Ref sig .tc := ⟨.hbm, 134, rfl⟩
abbrev main_call0_call0_v80 : Ref sig .tc := ⟨.hbm, 135, rfl⟩
abbrev main_call0_call0_v81 : Ref sig .tc := ⟨.hbm, 136, rfl⟩
abbrev main_call0_call0_c_20 : Ref sig .tc := ⟨.hbm, 137, rfl⟩
abbrev main_call0_call0_v82 : Ref sig .tc := ⟨.hbm, 138, rfl⟩
abbrev main_call0_call0_v83 : Ref sig .tc := ⟨.hbm, 139, rfl⟩
abbrev main_call0_call0_c_21 : Ref sig .tc := ⟨.hbm, 140, rfl⟩
abbrev main_call0_call0_v84 : Ref sig .tc := ⟨.hbm, 141, rfl⟩
abbrev main_call0_call0_v85 : Ref sig .tc := ⟨.hbm, 142, rfl⟩
abbrev main_call0_call0_v86 : Ref sig .tc := ⟨.hbm, 143, rfl⟩
abbrev main_call0_call0_v87 : Ref sig .tc := ⟨.hbm, 144, rfl⟩
abbrev main_call0_call0_v88 : Ref sig .tc := ⟨.hbm, 145, rfl⟩
abbrev main_call0_call0_c_22 : Ref sig .tc := ⟨.hbm, 146, rfl⟩
abbrev main_call0_call0_v89 : Ref sig .tc := ⟨.hbm, 147, rfl⟩
abbrev main_call0_call0_v90 : Ref sig .tc := ⟨.hbm, 148, rfl⟩
abbrev main_call0_call0_c_23 : Ref sig .tc := ⟨.hbm, 149, rfl⟩
abbrev main_call0_call0_v91 : Ref sig .tc := ⟨.hbm, 150, rfl⟩
abbrev main_call0_call0_v92 : Ref sig .tc := ⟨.hbm, 151, rfl⟩
abbrev main_call0_call0_v93 : Ref sig .tc := ⟨.hbm, 152, rfl⟩
abbrev main_call0_call0_v94 : Ref sig .tc := ⟨.hbm, 153, rfl⟩
abbrev main_call0_call0_v95 : Ref sig .tc := ⟨.hbm, 154, rfl⟩
abbrev main_call0_call0_c_24 : Ref sig .tc := ⟨.hbm, 155, rfl⟩
abbrev main_call0_call0_v96 : Ref sig .tc := ⟨.hbm, 156, rfl⟩
abbrev main_call0_call0_v97 : Ref sig .tc := ⟨.hbm, 157, rfl⟩
abbrev main_call0_call0_c_25 : Ref sig .tc := ⟨.hbm, 158, rfl⟩
abbrev main_call0_call0_v98 : Ref sig .tc := ⟨.hbm, 159, rfl⟩
abbrev main_call0_call0_v99 : Ref sig .tc := ⟨.hbm, 160, rfl⟩
abbrev main_call0_call0_v100 : Ref sig .tc := ⟨.hbm, 161, rfl⟩
abbrev main_call0_call0_v101 : Ref sig .tc := ⟨.hbm, 162, rfl⟩
abbrev main_call0_call0_v102 : Ref sig .tc := ⟨.hbm, 163, rfl⟩
abbrev main_call0_call0_v103 : Ref sig .tc := ⟨.hbm, 164, rfl⟩
abbrev main_call0_call0_v104 : Ref sig .tc := ⟨.hbm, 165, rfl⟩
abbrev main_call0_call0_v105 : Ref sig .tc := ⟨.hbm, 166, rfl⟩
abbrev main_call0_call0_c_26 : Ref sig .tc := ⟨.hbm, 167, rfl⟩
abbrev main_call0_call0_v106 : Ref sig .tc := ⟨.hbm, 168, rfl⟩
abbrev main_call0_call0_v107 : Ref sig .tc := ⟨.hbm, 169, rfl⟩
abbrev main_call0_call0_v108 : Ref sig .tc := ⟨.hbm, 170, rfl⟩
abbrev main_call0_call0_c_27 : Ref sig .tc := ⟨.hbm, 171, rfl⟩
abbrev main_call0_call0_v109 : Ref sig .tc := ⟨.hbm, 172, rfl⟩
abbrev main_call0_call0_v110 : Ref sig .tc := ⟨.hbm, 173, rfl⟩
abbrev main_call0_call0_c_28 : Ref sig .tc := ⟨.hbm, 174, rfl⟩
abbrev main_call0_call0_v111 : Ref sig .tc := ⟨.hbm, 175, rfl⟩
abbrev main_call0_call0_v112 : Ref sig .tc := ⟨.hbm, 176, rfl⟩
abbrev main_call0_call0_v113 : Ref sig .tc := ⟨.hbm, 177, rfl⟩
abbrev main_call0_call0_v114 : Ref sig .tc := ⟨.hbm, 178, rfl⟩
abbrev main_call0_call0_v115 : Ref sig .tc := ⟨.hbm, 179, rfl⟩
abbrev main_call0_call0_c_29 : Ref sig .tc := ⟨.hbm, 180, rfl⟩
abbrev main_call0_call0_v116 : Ref sig .tc := ⟨.hbm, 181, rfl⟩
abbrev main_call0_call0_v117 : Ref sig .tc := ⟨.hbm, 182, rfl⟩
abbrev main_call0_call0_c_30 : Ref sig .tc := ⟨.hbm, 183, rfl⟩
abbrev main_call0_call0_v118 : Ref sig .tc := ⟨.hbm, 184, rfl⟩
abbrev main_call0_call0_v119 : Ref sig .tc := ⟨.hbm, 185, rfl⟩
abbrev main_call0_call0_v120 : Ref sig .tc := ⟨.hbm, 186, rfl⟩
abbrev main_call0_call0_v121 : Ref sig .tc := ⟨.hbm, 187, rfl⟩
abbrev main_call0_call0_v122 : Ref sig .tc := ⟨.hbm, 188, rfl⟩
abbrev main_call0_call0_c_31 : Ref sig .tc := ⟨.hbm, 189, rfl⟩
abbrev main_call0_call0_v123 : Ref sig .tc := ⟨.hbm, 190, rfl⟩
abbrev main_call0_call0_v124 : Ref sig .tc := ⟨.hbm, 191, rfl⟩
abbrev main_call0_call0_c_32 : Ref sig .tc := ⟨.hbm, 192, rfl⟩
abbrev main_call0_call0_v125 : Ref sig .tc := ⟨.hbm, 193, rfl⟩
abbrev main_call0_call0_v126 : Ref sig .tc := ⟨.hbm, 194, rfl⟩
abbrev main_call0_call0_v127 : Ref sig .tc := ⟨.hbm, 195, rfl⟩
abbrev main_call0_call0_v128 : Ref sig .tc := ⟨.hbm, 196, rfl⟩
abbrev main_call0_call0_v129 : Ref sig .tc := ⟨.hbm, 197, rfl⟩
abbrev main_call0_call0_c_33 : Ref sig .tc := ⟨.hbm, 198, rfl⟩
abbrev main_call0_call0_v130 : Ref sig .tc := ⟨.hbm, 199, rfl⟩
abbrev main_call0_call0_v131 : Ref sig .tc := ⟨.hbm, 200, rfl⟩
abbrev main_call0_call0_c_34 : Ref sig .tc := ⟨.hbm, 201, rfl⟩
abbrev main_call0_call0_v132 : Ref sig .tc := ⟨.hbm, 202, rfl⟩
abbrev main_call0_call0_v133 : Ref sig .tc := ⟨.hbm, 203, rfl⟩
abbrev main_call0_call0_v134 : Ref sig .tc := ⟨.hbm, 204, rfl⟩
abbrev main_call0_call0_v135 : Ref sig .tc := ⟨.hbm, 205, rfl⟩
abbrev main_call0_call0_v136 : Ref sig .tc := ⟨.hbm, 206, rfl⟩
abbrev main_call0_call0_v137 : Ref sig .tc := ⟨.hbm, 207, rfl⟩
abbrev main_call0_call0_v138 : Ref sig .tc := ⟨.hbm, 208, rfl⟩
abbrev main_call0_call0_v139 : Ref sig .tc := ⟨.hbm, 209, rfl⟩
abbrev main_call0_call0_c_35 : Ref sig .tc := ⟨.hbm, 210, rfl⟩
abbrev main_call0_call0_v140 : Ref sig .tc := ⟨.hbm, 211, rfl⟩
abbrev main_call0_call0_v141 : Ref sig .tc := ⟨.hbm, 212, rfl⟩
abbrev main_call0_call0_v142 : Ref sig .tc := ⟨.hbm, 213, rfl⟩
abbrev main_call0_call0_c_36 : Ref sig .tc := ⟨.hbm, 214, rfl⟩
abbrev main_call0_call0_v143 : Ref sig .tc := ⟨.hbm, 215, rfl⟩
abbrev main_call0_call0_v144 : Ref sig .tc := ⟨.hbm, 216, rfl⟩
abbrev main_call0_call0_c_37 : Ref sig .tc := ⟨.hbm, 217, rfl⟩
abbrev main_call0_call0_v145 : Ref sig .tc := ⟨.hbm, 218, rfl⟩
abbrev main_call0_call0_v146 : Ref sig .tc := ⟨.hbm, 219, rfl⟩
abbrev main_call0_call0_v147 : Ref sig .tc := ⟨.hbm, 220, rfl⟩
abbrev main_call0_call0_v148 : Ref sig .tc := ⟨.hbm, 221, rfl⟩
abbrev main_call0_call0_v149 : Ref sig .tc := ⟨.hbm, 222, rfl⟩
abbrev main_call0_call0_c_38 : Ref sig .tc := ⟨.hbm, 223, rfl⟩
abbrev main_call0_call0_v150 : Ref sig .tc := ⟨.hbm, 224, rfl⟩
abbrev main_call0_call0_v151 : Ref sig .tc := ⟨.hbm, 225, rfl⟩
abbrev main_call0_call0_c_39 : Ref sig .tc := ⟨.hbm, 226, rfl⟩
abbrev main_call0_call0_v152 : Ref sig .tc := ⟨.hbm, 227, rfl⟩
abbrev main_call0_call0_v153 : Ref sig .tc := ⟨.hbm, 228, rfl⟩
abbrev main_call0_call0_v154 : Ref sig .tc := ⟨.hbm, 229, rfl⟩
abbrev main_call0_call0_v155 : Ref sig .tc := ⟨.hbm, 230, rfl⟩
abbrev main_call0_call0_v156 : Ref sig .tc := ⟨.hbm, 231, rfl⟩
abbrev main_call0_call0_c_40 : Ref sig .tc := ⟨.hbm, 232, rfl⟩
abbrev main_call0_call0_v157 : Ref sig .tc := ⟨.hbm, 233, rfl⟩
abbrev main_call0_call0_v158 : Ref sig .tc := ⟨.hbm, 234, rfl⟩
abbrev main_call0_call0_c_41 : Ref sig .tc := ⟨.hbm, 235, rfl⟩
abbrev main_call0_call0_v159 : Ref sig .tc := ⟨.hbm, 236, rfl⟩
abbrev main_call0_call0_v160 : Ref sig .tc := ⟨.hbm, 237, rfl⟩
abbrev main_call0_call0_v161 : Ref sig .tc := ⟨.hbm, 238, rfl⟩
abbrev main_call0_call0_v162 : Ref sig .tc := ⟨.hbm, 239, rfl⟩
abbrev main_call0_call0_v163 : Ref sig .tc := ⟨.hbm, 240, rfl⟩
abbrev main_call0_call0_c_42 : Ref sig .tc := ⟨.hbm, 241, rfl⟩
abbrev main_call0_call0_v164 : Ref sig .tc := ⟨.hbm, 242, rfl⟩
abbrev main_call0_call0_v165 : Ref sig .tc := ⟨.hbm, 243, rfl⟩
abbrev main_call0_call0_c_43 : Ref sig .tc := ⟨.hbm, 244, rfl⟩
abbrev main_call0_call0_v166 : Ref sig .tc := ⟨.hbm, 245, rfl⟩
abbrev main_call0_call0_v167 : Ref sig .tc := ⟨.hbm, 246, rfl⟩
abbrev main_call0_call0_v168 : Ref sig .tc := ⟨.hbm, 247, rfl⟩
abbrev main_call0_call0_v169 : Ref sig .tc := ⟨.hbm, 248, rfl⟩
abbrev main_call0_call0_v170 : Ref sig .tc := ⟨.hbm, 249, rfl⟩
abbrev main_call0_v15_0 : Ref sig .tc := ⟨.hbm, 250, rfl⟩
abbrev main_call0_call0_v172 : Ref sig .tc := ⟨.hbm, 251, rfl⟩
abbrev main_call0_call0_v173 : Ref sig .tc := ⟨.hbm, 252, rfl⟩
abbrev main_call0_call0_c_44 : Ref sig .tc := ⟨.hbm, 253, rfl⟩
abbrev main_call0_call0_v174 : Ref sig .tc := ⟨.hbm, 254, rfl⟩
abbrev main_call0_v15_1 : Ref sig .tc := ⟨.hbm, 255, rfl⟩
abbrev main_call0_v16 : Ref sig .tc := ⟨.hbm, 256, rfl⟩
abbrev main_call0_c_1 : Ref sig .tc := ⟨.hbm, 257, rfl⟩
abbrev main_call0_v17 : Ref sig .tc := ⟨.hbm, 258, rfl⟩
abbrev main_call0_v18 : Ref sig .tc := ⟨.hbm, 259, rfl⟩
abbrev main_call0_c_2 : Ref sig .tc := ⟨.hbm, 260, rfl⟩
abbrev main_call0_v19 : Ref sig .tc := ⟨.hbm, 261, rfl⟩
abbrev main_call0_v20 : Ref sig .tc := ⟨.hbm, 262, rfl⟩
abbrev main_call0_v21 : Ref sig .tc := ⟨.hbm, 263, rfl⟩
abbrev main_call0_cst : Ref sig .tc := ⟨.hbm, 264, rfl⟩
abbrev main_call0_v22 : Ref sig .tc := ⟨.hbm, 265, rfl⟩
abbrev main_call0_v23 : Ref sig .tc := ⟨.hbm, 266, rfl⟩
abbrev main_call0_v24 : Ref sig .tc := ⟨.hbm, 267, rfl⟩
abbrev main_call0_v25 : Ref sig .tc := ⟨.hbm, 268, rfl⟩
abbrev main_call0_v26 : Ref sig .tc := ⟨.hbm, 269, rfl⟩
abbrev main_call0_v27 : Ref sig .tc := ⟨.hbm, 270, rfl⟩
abbrev main_call0_v28 : Ref sig .tc := ⟨.hbm, 271, rfl⟩
abbrev main_call0_v29 : Ref sig .tc := ⟨.hbm, 272, rfl⟩
abbrev main_v11 : Ref sig .tc := ⟨.hbm, 273, rfl⟩
abbrev main_call1_v0 : Ref sig .tc := ⟨.hbm, 274, rfl⟩
abbrev main_call1_v1_0 : Ref sig .tc := ⟨.hbm, 275, rfl⟩
abbrev main_v12 : Ref sig .tc := ⟨.hbm, 276, rfl⟩
abbrev main_call2_c : Ref sig .tc := ⟨.hbm, 277, rfl⟩
abbrev main_call2_v0 : Ref sig .tc := ⟨.hbm, 278, rfl⟩
abbrev main_call2_v1 : Ref sig .tc := ⟨.hbm, 279, rfl⟩
abbrev main_call2_c_0 : Ref sig .tc := ⟨.hbm, 280, rfl⟩
abbrev main_call2_v2 : Ref sig .tc := ⟨.hbm, 281, rfl⟩
abbrev main_call2_v3 : Ref sig .tc := ⟨.hbm, 282, rfl⟩
abbrev main_call2_v4 : Ref sig .tc := ⟨.hbm, 283, rfl⟩
abbrev main_call2_v5 : Ref sig .tc := ⟨.hbm, 284, rfl⟩
abbrev main_call2_c_1 : Ref sig .tc := ⟨.hbm, 285, rfl⟩
abbrev main_call2_c_2 : Ref sig .tc := ⟨.hbm, 286, rfl⟩
abbrev main_call2_v6 : Ref sig .tc := ⟨.hbm, 287, rfl⟩
abbrev main_call2_v7 : Ref sig .tc := ⟨.hbm, 288, rfl⟩
abbrev main_call2_v8 : Ref sig .tc := ⟨.hbm, 289, rfl⟩
abbrev main_call2_v9 : Ref sig .tc := ⟨.hbm, 290, rfl⟩
abbrev main_call2_v10 : Ref sig .tc := ⟨.hbm, 291, rfl⟩
abbrev main_call2_v11 : Ref sig .tc := ⟨.hbm, 292, rfl⟩
abbrev main_call2_c_3 : Ref sig .tc := ⟨.hbm, 293, rfl⟩
abbrev main_call2_v12 : Ref sig .tc := ⟨.hbm, 294, rfl⟩
abbrev main_call2_v13 : Ref sig .tc := ⟨.hbm, 295, rfl⟩
abbrev main_call2_v14 : Ref sig .tc := ⟨.hbm, 296, rfl⟩
abbrev main_call2_cst : Ref sig .tc := ⟨.hbm, 297, rfl⟩
abbrev main_call2_v15 : Ref sig .tc := ⟨.hbm, 298, rfl⟩
abbrev main_v13 : Ref sig .tc := ⟨.hbm, 299, rfl⟩
abbrev main_v14 : Ref sig .tc := ⟨.hbm, 300, rfl⟩
abbrev main_v15 : Ref sig .tc := ⟨.hbm, 301, rfl⟩
abbrev main_v16 : Ref sig .tc := ⟨.hbm, 302, rfl⟩

abbrev nD : Nat := 1
abbrev τ : Topo := Topo.v7x

variable {F : FTy → Type} [FloatOps F]
-- ==== Proof.RowMap.lean ====
/-
  The row map of the problem: output row `r` of the 128 rows is source row `srcRow r`. The first 64 rows (the noise
  sources) are permuted by `perm`, the last 64 (the clean sources) stay.
-/
module

public import Mathlib.Data.Fin.Basic
public import Mathlib.Data.List.Basic

@[expose] public section

namespace Cert.Proof

/-- The permutation of the 64 noise rows, as a list of row numbers. -/
def permList : List ℕ :=
  [22, 18, 6, 26, 21, 45, 60, 39, 61, 49, 38, 27, 32, 57, 10, 63, 35, 20, 24, 56, 52, 40, 51, 42, 55, 4, 31, 14, 0, 43, 34, 3,
   50, 5, 17, 37, 28, 2, 41, 23, 58, 44, 54, 48, 46, 36, 1, 8, 16, 33, 30, 7, 19, 15, 9, 62, 13, 11, 59, 47, 25, 53, 12, 29]

/-- The source row of output row `r`, as a number. -/
def srcNat (r : ℕ) : ℕ := if r < 64 then permList.getD r 0 else r

/-- Every source row is one of the 128 rows. -/
theorem srcNat_lt : ∀ r : Fin 128, srcNat r.val < 128 := by decide

/-- Every permuted row is one of the 64 noise rows. -/
theorem perm_lt : ∀ k : Fin 64, permList.getD k.val 0 < 64 := by decide

/-- The source row of output row `r`. -/
def srcRow (r : Fin 128) : Fin 128 := ⟨srcNat r.val, srcNat_lt r⟩

/-- The source row of noise row `k`. -/
def perm (k : Fin 64) : Fin 64 := ⟨permList.getD k.val 0, perm_lt k⟩

end Cert.Proof
-- ==== Proof.KernelIdealTask.lean ====
/-
  The program of one tile: four row copies on one semaphore, then four waits. The kernel is a switch over the 32 tile
  numbers; at the tile `(c, s)` it is the copies of the rows `4 * (2 * s + c) + j`, `j < 4`.
-/
module

public import proofs.«01_k».proof.Proof.Gen.KernelIdeal
public import proofs.«01_k».proof.Proof.RowMap
public import Mathlib.Tactic.FinCases

@[expose] public section

noncomputable section

namespace Cert.Proof.KernelIdealTask

open Cert.KernelIdeal Cert.KernelIdeal.Gen
open Idealize.ShloMosaic Idealize.SL.Sem

variable {F : FTy → Type} [FloatOps F]

/-- Row `r` lies within the array. -/
theorem inb_row (r : Fin 128) : ∀ a, (![r.val, 0] : Fin 2 → ℕ) a + S1x160000.size a ≤ S128x160000.size a := by
  intro a
  match a with
  | 0 => show r.val + 1 ≤ 128; omega
  | 1 => show 0 + 160000 ≤ 160000; omega

/-- Row `r` as a rectangle of the array. -/
abbrev rowRect (r : Fin 128) : Rect S128x160000 := Rect.unit (s := S128x160000) ![r.val, 0] S1x160000.size (inb_row r)

/-- Row `r` of an array, as the program addresses it. -/
abbrev rowOf (a : Memref sig .scVector .hbm S128x160000 .f32) (r : Fin 128) : Memref sig .scVector .hbm S160000 .f32 :=
  (a.slice (rowRect r) (fun _ => rfl)).squeeze S160000 squeezes_S1x160000_S160000

/-- Row `j` of the four of tile `(c, s)`. -/
def tileRow (c : Fin 2) (s : Fin 16) (j : Fin 4) : Fin 128 := ⟨4 * (2 * s.val + c.val) + j.val, by omega⟩

/-- The coordinates of tile `(c, s)`. -/
def coordsV (c : Fin 2) (s : Fin 16) : grid0.Coords :=
  fun | 0 => c | 1 => s | ⟨_ + 2, h⟩ => absurd h (Nat.not_lt.2 (Nat.le_add_left _ _))

section
variable (i : grid0.Coords) (a b : Memref sig .scVector .hbm S128x160000 .f32) (sem : DmaSems sig S_)

/-- The start of the copy into output row `r`. -/
abbrev startRow (r : Fin 128) : Prog (TpuEff nD τ sig (Elt F) Λ₀ (.scVector ((i 0).castLE hcore0) ((i 1).castLE hsub0))) PUnit :=
  Prog.lift (.enqueueDma (rowOf a (srcRow r)) (.here (rowOf b r)) (.dma sem.sem) ((View.wordExact_bits rfl).reshape _ _)
    ((View.wordExact_bits rfl).reshape _ _) ⟨Or.inl rfl, trivial⟩)

/-- The wait for the copy into output row `r`. -/
abbrev awaitRow (r : Fin 128) : Prog (TpuEff nD τ sig (Elt F) Λ₀ (.scVector ((i 0).castLE hcore0) ((i 1).castLE hsub0))) PUnit :=
  Prog.lift (.waitDma2 sem.sem (rowOf a (srcRow r)) (rowOf b r) ((View.wordExact_bits rfl).reshape _ _) ((View.wordExact_bits rfl).reshape _ _))

/-- The copies into the output rows `row 0 … row 3`: four starts, then four waits. -/
def task (row : Fin 4 → Fin 128) : Prog (TpuEff nD τ sig (Elt F) Λ₀ (.scVector ((i 0).castLE hcore0) ((i 1).castLE hsub0))) PUnit := do
  startRow i a b sem (row 0)
  startRow i a b sem (row 1)
  startRow i a b sem (row 2)
  startRow i a b sem (row 3)
  awaitRow i a b sem (row 0)
  awaitRow i a b sem (row 1)
  awaitRow i a b sem (row 2)
  awaitRow i a b sem (row 3)
  pure ⟨⟩
end

/-- The kernel's switch at tile `(c, s)` runs the copies of that tile's four rows and nothing else. -/
theorem body_eq (c : Fin 2) (s : Fin 16) (a b : Memref sig .scVector .hbm S128x160000 .f32) (ha : a.IsWhole) (hb : b.IsWhole)
    (sem : DmaSems sig S_) :
    cc0_sc_remix_copy (F := F) (coordsV c s) a ha b hb sem = task (coordsV c s) a b sem (tileRow c s) := by
  fin_cases c <;> fin_cases s <;> rfl

end Cert.Proof.KernelIdealTask
end
-- ==== Proof.KernelIdealLaunch.lean ====
/-
  The launch: @main reshapes the operand to 128 rows, starts the row copies on the 32 tiles, waits for them and reshapes
  back. Every tile takes, for each of its four output rows, a read share of the whole operand and the row of the result,
  and brings back the row holding the operand's row `srcRow`. Proved for any float values, the result's value included.
-/
module

public import proofs.«01_k».proof.Defs
public import proofs.«01_k».proof.Proof.KernelIdealTask
public import Idealize.ShloMosaic.Lib.Batch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdealLaunch

open Cert.KernelIdeal Cert.KernelIdeal.Gen Cert.Proof.KernelIdealTask

open Idealize.ShloMosaic
open Idealize.ShloMosaic.SparseCore (S V T)
open Idealize.ShloMosaic.SparseCore.Cfg (HIx Pay ownBufs ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores and buffers are as the launch theorem wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The rows -/

/-- Row `r`'s elements of the array. -/
def rowSet (r : Fin 128) : Finset S128x160000.Idx := Finset.univ.filter fun i => (i 0).val = r.val

theorem mem_rowSet {r : Fin 128} {i : S128x160000.Idx} : i ∈ rowSet r ↔ (i 0).val = r.val := by
  simp [rowSet]

/-- The array whose row `r` is row `srcRow r` of `f`. -/
def permRows {α : Type} (f : S128x160000.Idx → α) : S128x160000.Idx → α :=
  fun i => f (fun | 0 => srcRow (i 0) | 1 => i 1)

theorem mem_rowRect {r : Fin 128} {i : S128x160000.Idx} : i ∈ (rowRect r).set ↔ (i 0).val = r.val := by
  rw [Rect.mem_set_unit]
  constructor
  · intro h
    have h0 := h 0
    have h1 : r.val ≤ (i 0).val ∧ (i 0).val < r.val + 1 := h0
    omega
  · intro h a
    match a with
    | 0 =>
      show r.val ≤ (i 0).val ∧ (i 0).val < r.val + 1
      omega
    | 1 =>
      have h1 : (i 1).val < 160000 := (i 1).isLt
      show 0 ≤ (i 1).val ∧ (i 1).val < 0 + 160000
      omega

/-- The element of row `r` under index `x`: its row is `r`, its column does not depend on `r`. -/
theorem emb_row (r r' : Fin 128) (x : S160000.Idx) :
    ((rowRect r).emb (Shape.reshapeEquiv (squeezes_S1x160000_S160000).numel_eq x) : S128x160000.Idx)
      = fun | 0 => r | 1 => ((rowRect r').emb (Shape.reshapeEquiv (squeezes_S1x160000_S160000).numel_eq x) : S128x160000.Idx) 1 := by
  funext a
  match a with
  | 0 =>
    have h : ((Shape.reshapeEquiv (squeezes_S1x160000_S160000).numel_eq x : S1x160000.Idx) 0).val < 1 := Fin.isLt _
    apply Fin.ext
    show r.val + 1 * ((Shape.reshapeEquiv (squeezes_S1x160000_S160000).numel_eq x : S1x160000.Idx) 0).val = r.val
    omega
  | 1 => rfl

theorem row_src {α : Type} (f : S128x160000.Idx → α) (r : Fin 128) (x : S160000.Idx) :
    f ((rowRect (srcRow r)).emb (Shape.reshapeEquiv (squeezes_S1x160000_S160000).numel_eq x))
      = permRows f ((rowRect r).emb (Shape.reshapeEquiv (squeezes_S1x160000_S160000).numel_eq x)) := by
  rw [emb_row (srcRow r) r x, emb_row r r x]
  rfl

local notation "aV" => (Memref.whole Cert.KernelIdeal.main_v0_scv : Memref Cert.KernelIdeal.sig Kind.scVector Space.hbm Cert.KernelIdeal.S128x160000 EltTy.f32)
local notation "bV" => (Memref.whole Cert.KernelIdeal.main_v1_scv : Memref Cert.KernelIdeal.sig Kind.scVector Space.hbm Cert.KernelIdeal.S128x160000 EltTy.f32)

/-- The elements the operand's row view names are the row's. -/
theorem set_aRow (r : Fin 128) : (rowOf aV r).view.set = rowSet r := by
  show (((aV).view.slice (rowRect r)).reshape S160000 squeezes_S1x160000_S160000.numel_eq).set = _
  rw [View.set_reshape, View.set_slice]
  refine (Finset.map_refl).trans ?_
  ext i
  rw [mem_rowRect, mem_rowSet]

/-- The elements the result's row view names are the row's. -/
theorem set_bRow (r : Fin 128) : (rowOf bV r).view.set = rowSet r := by
  show (((bV).view.slice (rowRect r)).reshape S160000 squeezes_S1x160000_S160000.numel_eq).set = _
  rw [View.set_reshape, View.set_slice]
  refine (Finset.map_refl).trans ?_
  ext i
  rw [mem_rowRect, mem_rowSet]

/-- What the copy of row `srcRow r` of `f` leaves in row `r` is row `r` of `permRows f`. -/
theorem write_row (r : Fin 128) (g f : S128x160000.Idx → Elt F .f32) (i : S128x160000.Idx) (hi : i ∈ (rowOf bV r).view.set) :
    (rowOf bV r).view.write (Elt F) g ((rowOf aV (srcRow r)).view.read (Elt F) f) Finset.univ i = permRows f i := by
  obtain ⟨x, -, rfl⟩ := Finset.mem_map.1 hi
  rw [View.write_emb_of_mem _ _ (Finset.mem_univ x), View.read_apply]
  exact row_src f r x

/-! ## The launch memory and the buffers -/

variable (m : (ℓ : Loc nD τ sig) → Buf (Elt F) ℓ) (ρ : Dev nD → PrngReg)

abbrev argLoc (d : Dev nD) : Loc nD τ sig := (SparseCore.T d).loc main_arg0
abbrev aLoc (d : Dev nD) : Loc nD τ sig := (SparseCore.T d).loc main_v0
abbrev bLoc (d : Dev nD) : Loc nD τ sig := (SparseCore.T d).loc main_v1
abbrev outLoc (d : Dev nD) : Loc nD τ sig := (SparseCore.T d).loc main_v2

/-- The operand as 128 rows. -/
def xs (d : Dev nD) : S128x160000.Idx → Elt F .f32 :=
  shapeCast S128x160000 (m (argLoc d) : S2x64x1x160000.Idx → Elt F .f32) shapeCasts_S2x64x1x160000_S128x160000

/-- The read share of the operand that row `r`'s copy holds. -/
def share (r : Fin 128) : PosShare TreeShare := Transfers.dealOf fullShare Finset.univ r

/-! ## What the handshakes carry -/

/-- For row `r`: its share of the operand, and the result's row `r` at contents `g`. -/
def rowAt (d : Dev nD) (g : Buf (Elt F) (bLoc d)) (r : Fin 128) : sProp 𝕄 :=
  iprop((aLoc d ↦{share r} xs m d) ∗ (bLoc d ↦[rowSet r]{fullShare} g))

/-- The four rows of tile `(c, i)`. -/
def tileAt (d : Dev nD) (g : Buf (Elt F) (bLoc d)) (c : Fin 2) (i : Fin 16) : sProp 𝕄 :=
  bigSep Finset.univ fun j : Fin 4 => rowAt m d g (tileRow c i j)

/-- The rows of the sixteen tiles of SparseCore `c`. -/
def coreAt (d : Dev nD) (g : Buf (Elt F) (bLoc d)) (c : Fin 2) : sProp 𝕄 :=
  bigSep Finset.univ fun i : Fin 16 => tileAt m d g c i

instance rowAt_storable (d : Dev nD) (g : Buf (Elt F) (bLoc d)) (r : Fin 128) : BI.Storable (upEmb : UEmb _ 𝕄) (rowAt m d g r) := by
  unfold rowAt; infer_instance
instance tileAt_storable (d : Dev nD) (g : Buf (Elt F) (bLoc d)) (c : Fin 2) (i : Fin 16) : BI.Storable (upEmb : UEmb _ 𝕄) (tileAt m d g c i) := by
  unfold tileAt; infer_instance
instance coreAt_storable (d : Dev nD) (g : Buf (Elt F) (bLoc d)) (c : Fin 2) : BI.Storable (upEmb : UEmb _ 𝕄) (coreAt m d g c) := by
  unfold coreAt; infer_instance

/-- Each SparseCore takes its tiles' rows at the launch contents and brings them back holding the permuted rows. -/
def P : (K (F := F)).Pay (nD := nD) (Val := Elt F) (Name := ℕ) (U := UU) where
  st := fun q d c => match q with | 0 => coreAt m d (m (bLoc d)) c
  dn := fun q d c => match q with | 0 => coreAt m d (permRows (xs m d)) c
  go := fun q d c i => match q with | 0 => tileAt m d (m (bLoc d)) c i
  td := fun q d c i => match q with | 0 => tileAt m d (permRows (xs m d)) c i
  x := fun _ _ => iprop(emp)

instance P_storable : (P m).IsStorable where
  st q d c := match q with | 0 => coreAt_storable m d _ c
  dn q d c := match q with | 0 => coreAt_storable m d _ c
  go q d c i := match q with | 0 => tileAt_storable m d _ c i
  td q d c i := match q with | 0 => tileAt_storable m d _ c i

/-! ## One row's copy and its wait -/

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- What the copy into row `r` delivers: the row at the permuted contents, and the read elements of the operand. -/
def delivery (r : Fin 128) : sProp 𝕄 :=
  iprop((bLoc d ↦[rowSet r]{fullShare} permRows (xs m d)) ∗ (aLoc d ↦[rowSet (srcRow r)]{share r} xs m d))

instance delivery_storable (r : Fin 128) : BI.Storable (upEmb : UEmb _ 𝕄) (delivery m d r) := by
  unfold delivery; infer_instance

/-- The elements of the operand that the copy into row `r` does not read. -/
def unread (r : Fin 128) : sProp 𝕄 := aLoc d ↦[Finset.univ \ rowSet (srcRow r)]{share r} xs m d

/-- The semaphore credit of one row. -/
def credit : ℕ := (rowOf bV 0).view.dmaCredit

theorem credit_eq (r : Fin 128) : (rowOf bV r).view.dmaCredit = credit := rfl

theorem credit_pos : 0 < credit := View.dmaCredit_pos _ (show 0 < S160000.numel by decide)

/-- The four copies of a tile, of which `k` are issued and `u` units are waited for. -/
abbrev flight (row : Fin 4 → Fin 128) (k u : ℕ) : sProp 𝕄 :=
  Transfers.Batch countersEmb (thr d L) (.dma cc0_scratch0.sem) (default : HIx 1) credit (fun j : Fin 4 => delivery m d (row j)) k u

/-- What a row's copy leaves is its delivery. -/
theorem delivered (r : Fin 128) (g : Buf (Elt F) (bLoc d)) :
    iprop((bLoc d ↦[rowSet r]{fullShare} (rowOf bV r).view.write (Elt F) g ((rowOf aV (srcRow r)).view.read (Elt F) (xs m d)) Finset.univ)
      ∗ (aLoc d ↦[rowSet (srcRow r)]{share r} xs m d)) ⊢ (delivery m d r : sProp 𝕄) := by
  unfold delivery
  rw [pointsTo_congr (ℓ := bLoc d) (I := rowSet r) (g := permRows (xs m d)) fun i hi => write_row r g (xs m d) i (by rw [set_bRow]; exact hi)]

/-- Starting copy `j`. -/
theorem start_wp (row : Fin 4 → Fin 128) (j : ℕ) (hj : j < 4) {Q : PUnit → sProp 𝕄} :
    iprop(rowAt m d (m (bLoc d)) (row ⟨j, hj⟩) ∗ flight m d L row j 0)
      ⊢ iprop((iprop(unread m d (row ⟨j, hj⟩) ∗ flight m d L row (j + 1) 0) -∗ Q ⟨⟩)
        -∗ wp frame (wpE (defs₀ (F := F)) 𝒱₀ (thr d L) none) Set.univ (startRow L aV bV cc0_scratch0 (row ⟨j, hj⟩)) Q) := by
  unfold rowAt unread
  iintro ⟨⟨Ha, Hb⟩, HB⟩ HQ
  ihave Ha' := (pointsTo_split_subset (ℓ := aLoc d) (q := share (row ⟨j, hj⟩)) (f := xs m d) (S := Finset.univ) (Finset.subset_univ (rowSet (srcRow (row ⟨j, hj⟩))))).1 $$ Ha
  icases Ha' with ⟨Hs, Hr⟩
  have hs := set_aRow (srcRow (row ⟨j, hj⟩))
  have hd := set_bRow (row ⟨j, hj⟩)
  ihave Hs' := (Entails.of_eq (show (aLoc d ↦[rowSet (srcRow (row ⟨j, hj⟩))]{share (row ⟨j, hj⟩)} xs m d : sProp 𝕄)
    = (rowOf aV (srcRow (row ⟨j, hj⟩))).view.loc (thr d L) ↦[(rowOf aV (srcRow (row ⟨j, hj⟩))).view.set]{share (row ⟨j, hj⟩)} xs m d by rw [hs])) $$ Hs
  iapply (Transfers.wp_dmaBatch countersEmb 𝒱₀ (thr d L) none (src := rowOf aV (srcRow (row ⟨j, hj⟩))) (dst := rowOf bV (row ⟨j, hj⟩)) (sm := .dma cc0_scratch0.sem)
    (q := share (row ⟨j, hj⟩)) (fs := xs m d) (Sd := rowSet (row ⟨j, hj⟩)) (fd := m (bLoc d)) (D := fun j : Fin 4 => delivery m d (row j))
    (default : HIx 1) credit (credit_eq _) (by rw [hd]) hj (Nat.zero_le _)
    (by rw [hs]; exact delivered m d (row ⟨j, hj⟩) (m (bLoc d)))) $$ [Hs' Hb HB]
  · isplitl [Hs']; · iexact Hs'
    isplitl [Hb]; · iexact Hb
    iexact HB
  iintro HB
  rw [wp_ret]; imodintro
  iapply HQ
  isplitl [Hr] <;> iassumption

/-- A wait that leaves copies to be waited for. -/
theorem await_wp (row : Fin 4 → Fin 128) (r : Fin 128) (u : ℕ) (hu : u + credit < credit * 4) {O : CellTallies nD τ sig (HIx 1)} {W : Waits sig (HIx 1)}
    {Q : PUnit → sProp 𝕄} :
    iprop(flight m d L row 4 u ∗ owes (thr d L) O W ∗ Transfers.MayWaits (thr d L) (default : HIx 1) O)
      ⊢ iprop((iprop(flight m d L row 4 (u + credit) ∗ owes (thr d L) O (insert (SemLoc.dma cc0_scratch0.sem, (default : HIx 1)) W)) -∗ Q ⟨⟩)
        -∗ wp frame (wpE (defs₀ (F := F)) 𝒱₀ (thr d L) none) Set.univ (awaitRow L aV bV cc0_scratch0 r) Q) := by
  iintro ⟨HB, HO, Hmw⟩ HQ
  iapply (Transfers.wp_waitBatchO countersEmb 𝒱₀ (thr d L) none (dstw := rowOf bV r) (D := fun j : Fin 4 => delivery m d (row j)) (default : HIx 1)
    (credit_eq r) hu) $$ [HB HO Hmw]
  · isplitl [HB]; · iexact HB
    isplitl [HO]; · iexact HO
    iapply (Transfers.MayWaits.elim (SemLoc.dma cc0_scratch0.sem)) $$ Hmw
  iintro H
  rw [wp_ret]; imodintro
  iapply HQ; iexact H

/-- The last wait: every copy's delivery, and the semaphore at zero. -/
theorem await_last_wp (row : Fin 4 → Fin 128) (r : Fin 128) (u : ℕ) (hu : u + credit = credit * 4) {O : CellTallies nD τ sig (HIx 1)} {W : Waits sig (HIx 1)}
    {Q : PUnit → sProp 𝕄} :
    iprop(flight m d L row 4 u ∗ owes (thr d L) O W ∗ Transfers.MayWaits (thr d L) (default : HIx 1) O)
      ⊢ iprop((iprop((bigSep Finset.univ fun j : Fin 4 => delivery m d (row j)) ∗ semVal (thr d L, .dma cc0_scratch0.sem) 0
            ∗ owes (thr d L) O (insert (SemLoc.dma cc0_scratch0.sem, (default : HIx 1)) W)) -∗ Q ⟨⟩)
        -∗ wp frame (wpE (defs₀ (F := F)) 𝒱₀ (thr d L) none) Set.univ (awaitRow L aV bV cc0_scratch0 r) Q) := by
  iintro ⟨HB, HO, Hmw⟩ HQ
  iapply (Transfers.wp_waitBatchLastO countersEmb 𝒱₀ (thr d L) none (dstw := rowOf bV r) (D := fun j : Fin 4 => delivery m d (row j)) (default : HIx 1)
    (credit_eq r) credit_pos hu) $$ [HB HO Hmw]
  · isplitl [HB]; · iexact HB
    isplitl [HO]; · iexact HO
    iapply (Transfers.MayWaits.elim (SemLoc.dma cc0_scratch0.sem)) $$ Hmw
  iintro H
  rw [wp_ret]; imodintro
  iapply HQ; iexact H

/-- A row's delivery and the elements its copy did not read are the row handed back. -/
theorem row_back (r : Fin 128) : iprop(delivery m d r ∗ unread m d r) ⊢ (rowAt m d (permRows (xs m d)) r : sProp 𝕄) := by
  unfold delivery unread rowAt
  iintro ⟨⟨Hb, Ha⟩, Hr⟩
  isplitl [Ha Hr]
  · iapply (pointsTo_split_subset (ℓ := aLoc d) (q := share r) (f := xs m d) (S := Finset.univ) (Finset.subset_univ (rowSet (srcRow r)))).2
    isplitl [Ha] <;> iassumption
  · iexact Hb

/-- Four resources, one by one. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem ownSems0_V :
    (ownSems0 (thr d L) : sProp 𝕄)
      = iprop(semVal (thr d L, .dma cc0_scratch0.sem) 0 ∗ bigSep ((ownCells (thr d L)).erase (thr d L, .dma cc0_scratch0.sem)) fun g => semVal g 0) := by
  unfold SparseCore.Cfg.ownSems0
  rw [SparseCore.bigSep_erase' ((mem_ownCells (g := (thr d L, .dma cc0_scratch0.sem))).mpr ⟨rfl, by
      show (SemLoc.dma cc0_scratch0.sem : SemLoc sig).isScoped .scVector = true; decide⟩)]

/-- The tile's task: the four rows go in at the launch contents and come back permuted. -/
theorem task_wp (row : Fin 4 → Fin 128) (O : CellTallies nD τ sig (HIx 1)) (W : Waits sig (HIx 1)) :
    iprop(Transfers.MayWaits (thr d L) (default : HIx 1) O ∗ (bigSep Finset.univ fun j => rowAt m d (m (bLoc d)) (row j))
        ∗ semVal (thr d L, .dma cc0_scratch0.sem) 0 ∗ owes (thr d L) O W)
      ⊢ wp frame (wpE (defs₀ (F := F)) 𝒱₀ (thr d L) none) Set.univ (task L aV bV cc0_scratch0 row)
          fun _ => iprop((bigSep Finset.univ fun j => rowAt m d (permRows (xs m d)) (row j)) ∗ semVal (thr d L, .dma cc0_scratch0.sem) 0
            ∗ ∃ W', ⌜∀ p ∈ W', p ∈ W ∨ p.2 = none⌝ ∗ owes (thr d L) O W') := by
  have hc := credit_pos
  rw [bigSep_four, bigSep_four]
  simp only [task, wp_bind, wp_pure]
  iintro ⟨#Hmw, ⟨H0, H1, H2, H3⟩, Hsem, HO⟩
  imod (Transfers.batch_alloc' countersEmb (thr d L) (default : HIx 1) credit (fun j : Fin 4 => delivery m d (row j)) (E := Set.univ)) $$ Hsem with HB
  iapply (start_wp m d L row 0 (by decide)) $$ [H0 HB]
  · isplitl [H0]; · iexact H0
    iexact HB
  iintro ⟨U0, HB⟩
  iapply (start_wp m d L row 1 (by decide)) $$ [H1 HB]
  · isplitl [H1]; · iexact H1
    iexact HB
  iintro ⟨U1, HB⟩
  iapply (start_wp m d L row 2 (by decide)) $$ [H2 HB]
  · isplitl [H2]; · iexact H2
    iexact HB
  iintro ⟨U2, HB⟩
  iapply (start_wp m d L row 3 (by decide)) $$ [H3 HB]
  · isplitl [H3]; · iexact H3
    iexact HB
  iintro ⟨U3, HB⟩
  iapply (await_wp m d L row (row 0) 0 (by omega)) $$ [HB HO]
  · isplitl [HB]; · iexact HB
    isplitl [HO]; · iexact HO
    iexact Hmw
  iintro ⟨HB, HO⟩
  iapply (await_wp m d L row (row 1) (0 + credit) (by omega)) $$ [HB HO]
  · isplitl [HB]; · iexact HB
    isplitl [HO]; · iexact HO
    iexact Hmw
  iintro ⟨HB, HO⟩
  iapply (await_wp m d L row (row 2) (0 + credit + credit) (by omega)) $$ [HB HO]
  · isplitl [HB]; · iexact HB
    isplitl [HO]; · iexact HO
    iexact Hmw
  iintro ⟨HB, HO⟩
  iapply (await_last_wp m d L row (row 3) (0 + credit + credit + credit) (by omega)) $$ [HB HO]
  · isplitl [HB]; · iexact HB
    isplitl [HO]; · iexact HO
    iexact Hmw
  rw [bigSep_four]
  iintro ⟨⟨D0, D1, D2, D3⟩, Hsem, HO⟩
  imodintro
  isplitr [Hsem HO]
  · isplitl [D0 U0]
    · iapply (row_back m d (row 0)); isplitl [D0]; · iexact D0
      iexact U0
    isplitl [D1 U1]
    · iapply (row_back m d (row 1)); isplitl [D1]; · iexact D1
      iexact U1
    isplitl [D2 U2]
    · iapply (row_back m d (row 2)); isplitl [D2]; · iexact D2
      iexact U2
    iapply (row_back m d (row 3)); isplitl [D3]; · iexact D3
    iexact U3
  isplitl [Hsem]; · iexact Hsem
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact .inl hp

end Tile

/-- The kernel on tile `(c, i)`: its four rows go in at the launch contents and come back permuted. -/
theorem tile_body (d : Dev nD) (c : Fin 2) (i : Fin 16) (hF : (K (F := F)).Facts) (O : CellTallies nD τ sig (HIx 1)) (W : Waits sig (HIx 1)) (hO : ∀ g, O g none = 0) :
    iprop(levAts (K (F := F)).L (K (F := F)).lev ∗ emp ∗ tileAt m d (m (bLoc d)) c i
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0_sc_remix_copy (coordsV c i) aV (Memref.isWhole_whole _) bV (Memref.isWhole_whole _) cc0_scratch0)
          fun _ => iprop(tileAt m d (permRows (xs m d)) c i
            ∗ scopedBufs (thr d (coordsV c i)) ∗ scopedSems0 (thr d (coordsV c i))
            ∗ ∃ W', ⌜∀ p ∈ W', p ∈ W ∨ p.2 = none⌝ ∗ owes (thr d (coordsV c i)) O W') := by
  rw [body_eq, SparseCore.Cfg.scopedSems0_V (Val := Elt F) d (cV (coordsV c i)) (jV (coordsV c i)), ownSems0_V]
  iintro ⟨#Hlv, -, Ht, Hbufs, ⟨Hsem, Hsems⟩, HO⟩
  ihave Hmw := (show levAts (K (F := F)).L (K (F := F)).lev ⊢ Transfers.MayWaits (thr d (coordsV c i)) (default : HIx 1) O from
    (K (F := F)).mayWaits_none (thr := thr d (coordsV c i)) hO) $$ Hlv
  iapply (wp_wand_r frame (wpE (defs₀ (F := F)) 𝒱₀ (thr d (coordsV c i)) none) Set.univ)
  isplitl [Hmw Ht Hsem HO]
  · iapply (task_wp m d (coordsV c i) (tileRow c i) O W)
    isplitl [Hmw]; · iexact Hmw
    isplitl [Ht]; · unfold tileAt; iexact Ht
    isplitl [Hsem] <;> iassumption
  iintro %_ ⟨Ht, Hsem, HO⟩
  isplitl [Ht]; · unfold tileAt; iexact Ht
  isplitl [Hbufs]; · iexact Hbufs
  isplitl [Hsem Hsems]; · isplitl [Hsem] <;> iassumption
  iexact HO

/-! ## The launch's obligations -/

theorem defs₀_vector (c : Fin τ.nSC) (s : Fin τ.nSub) :
    defs₀ (F := F) (.scVector c s) 0 ()
      = SparseCore.onTile hcore0 hsub0 (fun c s => cc0_sc_remix_copy (coordsV c s)
          aV (Memref.isWhole_whole _) bV (Memref.isWhole_whole _) cc0_scratch0) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the launch runs its task. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d c i hF O W hO).trans (wp_mono frame _ _ fun _ => obl_post)

/-- A SparseCore's rows are its tiles' rows. -/
theorem vecSplit : (K (F := F)).VecSplit' (P m) 0 := by
  intro d c
  show coreAt m d (m (bLoc d)) c ⊢ |={Set.univ}=> iprop((bigSep Finset.univ fun i : Fin 16 => tileAt m d (m (bLoc d)) c i)
    ∗ ((bigSep Finset.univ fun i : Fin 16 => tileAt m d (permRows (xs m d)) c i) -∗ coreAt m d (permRows (xs m d)) c))
  unfold coreAt
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun t : Thread nD τ => bigSep Finset.univ fun q : Fin 1 => (P m).x q t) = bigSep Finset.univ fun _ => iprop(emp) from
    bigSep_congr fun _ _ => bigSep_univ_of_subsingleton (0 : Fin 1), bigSep_emp']
  iempintro

/-! ## The whole arrays and the rows -/

/-- SparseCore, tile and copy against the row written. -/
def rowEquiv : Fin 2 × Fin 16 × Fin 4 ≃ Fin 128 where
  toFun p := tileRow p.1 p.2.1 p.2.2
  invFun r := (⟨r.val / 4 % 2, by omega⟩, ⟨r.val / 8, by omega⟩, ⟨r.val % 4, by omega⟩)
  left_inv p := by
    obtain ⟨c, i, j⟩ := p
    simp only [tileRow, Prod.mk.injEq, Fin.ext_iff]
    omega
  right_inv r := by
    simp only [tileRow, Fin.ext_iff]
    omega

/-- The rows of the two SparseCores are the 128 rows. -/
theorem cores_rows (d : Dev nD) (g : Buf (Elt F) (bLoc d)) :
    (bigSep Finset.univ fun c : Fin 2 => coreAt m d g c) = bigSep Finset.univ fun r : Fin 128 => rowAt m d g r := by
  unfold coreAt tileAt
  rw [bigSep_univ_equiv rowEquiv, bigSep_univ_prod]
  refine bigSep_congr fun c _ => ?_
  rw [bigSep_univ_prod]
  rfl

theorem rows_disjoint : ∀ i ∈ (Finset.univ : Finset (Fin 128)), ∀ j ∈ (Finset.univ : Finset (Fin 128)), i ≠ j → Disjoint (rowSet i) (rowSet j) :=
  fun i _ j _ h => Finset.disjoint_left.2 fun x hi hj => h (Fin.ext ((mem_rowSet.1 hi).symm.trans (mem_rowSet.1 hj)))

theorem rows_cover : (Finset.univ : Finset (Fin 128)).biUnion rowSet = Finset.univ :=
  Finset.eq_univ_iff_forall.2 fun x => Finset.mem_biUnion.2 ⟨x 0, Finset.mem_univ _, mem_rowSet.2 rfl⟩

/-- The 128 rows, each with its share of the operand, are the operand and the result whole. -/
theorem rows_whole (d : Dev nD) (g : Buf (Elt F) (bLoc d)) :
    (bigSep Finset.univ fun c : Fin 2 => coreAt m d g c) = iprop((aLoc d ↦{fullShare} xs m d) ∗ (bLoc d ↦{fullShare} g)) := by
  rw [cores_rows]
  unfold rowAt share
  rw [bigSep_sep', ← Transfers.pointsTo_deal Finset.univ ⟨0, Finset.mem_univ _⟩,
    ← pointsTo_biUnion Finset.univ (ℓ := bLoc d) rowSet rows_disjoint, rows_cover]

/-! ## @main on the TensorCore -/

abbrev arg' : DevRef τ sig := Proc.devRef .tc (main_arg0 : Ref sig .tc)
abbrev a' : DevRef τ sig := Proc.devRef .tc (main_v0 : Ref sig .tc)
abbrev b' : DevRef τ sig := Proc.devRef .tc (main_v1 : Ref sig .tc)
abbrev out' : DevRef τ sig := Proc.devRef .tc (main_v2 : Ref sig .tc)
abbrev opIn : HloOp τ sig (Elt F) := StableHlo.reshape main_arg0 main_v0 rfl shapeCasts_S2x64x1x160000_S128x160000
abbrev opOut : HloOp τ sig (Elt F) := StableHlo.reshape main_v1 main_v2 rfl shapeCasts_S128x160000_S2x64x1x160000

/-- The TensorCore's arrays. -/
abbrev S4 : Finset (DevRef τ sig) := {arg', a', b', out'}

theorem held_S4 (d : Dev nD) (W : Valuation τ sig (Elt F)) :
    (held (T d) S4 W : sProp 𝕄) = iprop((argLoc d ↦{fullShare} W arg') ∗ (aLoc d ↦{fullShare} W a') ∗ (bLoc d ↦{fullShare} W b') ∗ outLoc d ↦{fullShare} W out') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((argLoc d ↦{fullShare} W main_arg0) ∗ (aLoc d ↦{fullShare} W main_v0) ∗ (bLoc d ↦{fullShare} W main_v1) ∗ outLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays' contents at the launch, after the first reshape, and after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) b' (permRows (xs m d))
def V3 (d : Dev nD) : Valuation τ sig (Elt F) := (opOut (F := F)).result (V2 m d)

theorem unscoped_held (d : Dev nD) : (unscopedBufs d (fun b => m ((SparseCore.T d).loc b)) : sProp 𝕄) = held (T d) S4 (V0 m d) := by
  rw [unscopedBufs_eq, held_S4]; rfl

/-- The program's result: the permuted rows at the result's shape. -/
def result (d : Dev nD) : S2x64x1x160000.Idx → Elt F .f32 :=
  shapeCast S2x64x1x160000 (permRows (xs m d)) shapeCasts_S128x160000_S2x64x1x160000

theorem V1_arg (d : Dev nD) : V1 m d arg' = m (argLoc d) := StableHlo.reshape_result_ne _ _ _ _ _ _ _ (show main_arg0 ≠ main_v0 by decide)
theorem V1_a (d : Dev nD) : V1 m d a' = xs m d := StableHlo.reshape_result main_arg0 main_v0 rfl _ _ _ _
theorem V1_b (d : Dev nD) : V1 m d b' = m (bLoc d) := StableHlo.reshape_result_ne _ _ _ _ _ _ _ (show main_v1 ≠ main_v0 by decide)

theorem V2_arg (d : Dev nD) : V2 m d arg' = m (argLoc d) := (Function.update_of_ne (show arg' ≠ b' by decide) _ _).trans (V1_arg m d)
theorem V2_a (d : Dev nD) : V2 m d a' = xs m d := (Function.update_of_ne (show a' ≠ b' by decide) _ _).trans (V1_a m d)
theorem V2_b (d : Dev nD) : V2 m d b' = permRows (xs m d) := Function.update_self _ _ _
theorem V2_out (d : Dev nD) : V2 m d out' = V1 m d out' := Function.update_of_ne (show out' ≠ b' by decide) _ _

theorem V3_arg (d : Dev nD) : V3 m d arg' = m (argLoc d) :=
  (StableHlo.reshape_result_ne _ _ _ _ _ _ _ (show main_arg0 ≠ main_v2 by decide)).trans (V2_arg m d)
theorem V3_out (d : Dev nD) : V3 m d out' = result m d := by
  refine (StableHlo.reshape_result main_v1 main_v2 rfl _ _ _ _).trans ?_
  show shapeCast S2x64x1x160000 (V2 m d b') shapeCasts_S128x160000_S2x64x1x160000 = _
  rw [V2_b]; rfl

theorem hIn : (opIn (F := F)).bufs ⊆ S4 := show ({arg', a'} : Finset (DevRef τ sig)) ⊆ S4 by decide
theorem hOut : (opOut (F := F)).bufs ⊆ S4 := show ({b', out'} : Finset (DevRef τ sig)) ⊆ S4 by decide

/-- What @main leaves the claim: the argument at its launch contents, the result at its value. -/
abbrev FIN (d : Dev nD) : sProp 𝕄 := iprop((argLoc d ↦{fullShare} m (argLoc d)) ∗ (outLoc d ↦{fullShare} result m d))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb] <;> iassumption
  iintro ⟨Hb, Hheld⟩
  ihave Hh := (Entails.of_eq (show (held (T d) S4 ((opIn (F := F)).result (V0 m d)) : sProp 𝕄) = _ from held_S4 (F := F) d (V1 m d))) $$ Hheld
  rw [V1_arg, V1_a, V1_b]
  icases Hh with ⟨Harg, Ha, Hbb, Hout⟩
  rw [wp_ret]; imodintro
  iapply ((K (F := F)).wp_run (D (F := F)) 𝒱 (EH := EH) (P := P m) κ d 0) $$ [Hst Harg Ha Hbb Hout Hb Hts]
  isplitr; · iexact Hctx
  isplitl [Hst]; · iexact Hst
  isplitl [Ha Hbb]
  · iapply (Entails.of_eq (rows_whole m d (m (bLoc d))).symm)
    isplitl [Ha] <;> iassumption
  iintro ⟨Hst, Hdn⟩
  ihave Hdn' := (Entails.of_eq (show (bigSep Finset.univ fun c : Fin ((K (F := F)).nCore 0) => (P m).dn 0 d c) = _ from rows_whole m d (permRows (xs m d)))) $$ Hdn
  icases Hdn' with ⟨Ha, Hbb⟩
  iapply (wp_hlo_within 𝒱 (SparseCore.T d) none Set.univ (op := opOut) (S := S4) hOut (V := V2 m d)) $$ [Hb Harg Ha Hbb Hout]
  · isplitl [Hb]; · iexact Hb
    rw [held_S4, V2_arg, V2_a, V2_b, V2_out]
    isplitl [Harg]; · iexact Harg
    isplitl [Ha]; · iexact Ha
    isplitl [Hbb] <;> iassumption
  iintro ⟨Hb, Hheld⟩
  ihave Hh := (Entails.of_eq (show (held (T d) S4 ((opOut (F := F)).result (V2 m d)) : sProp 𝕄) = _ from held_S4 (F := F) d (V3 m d))) $$ Hheld
  rw [V3_arg, V3_out]
  icases Hh with ⟨Harg, -, -, Hout⟩
  rw [wp_ret]; imodintro; imodintro
  isplitl [Hst]; · iexact Hst
  isplitr [Hb Hts]
  · isplitl [Harg] <;> iassumption
  isplitl [Hb] <;> iassumption

/-! ## The run -/

def fq (d : Dev nD) (s' : Phys nD τ sig (Elt F)) : Prop := s'.mem.mem (argLoc d) = m (argLoc d) ∧ s'.mem.mem (outLoc d) = result m d

set_option maxRecDepth 16384 in
theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := argLoc d) (I := Finset.univ) (q := fullShare) (f := m (argLoc d)))) $$ [HSI Hi]
  · isplitl [HSI] <;> iassumption
  icases H with ⟨%h1, HSI, -⟩
  ihave H := (SI_pointsTo_agree (st := s') (ℓ := outLoc d) (I := Finset.univ) (q := fullShare) (f := result m d)) $$ [HSI Hx]
  · isplitl [HSI] <;> iassumption
  icases H with %h2
  ipureintro; exact ⟨funext fun i => h1 i (Finset.mem_univ i), funext fun i => h2 i (Finset.mem_univ i)⟩

/-- After a run: the argument unchanged, the result the permuted rows, every semaphore at zero. -/
def Final : PUnit × MemSt nD τ sig (Elt F) → Prop :=
  fun r => (∀ c : Dev nD, r.2.mem (argLoc c) = m (argLoc c) ∧ r.2.mem (outLoc c) = result m c) ∧ r.2.sem = fun _ => 0

/-- Every run of the program ends, faulting nowhere, in such a state. -/
theorem run_main [∀ e, Nonempty (Elt F e)] :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Final m) (fun _ h hz => ⟨h, hz⟩)

end Cert.Proof.KernelIdealLaunch
end
-- ==== Proof.Line.lean ====
module

public import Idealize.ShloMosaic.Lib.StableHlo.RunHlo

@[expose] public section

/-!
A straight line of array operations in which every operation writes a fresh buffer.

The reference's buffers are numbered in the order its operations fill them: each operation reads
buffers of smaller numbers and writes the next one. After such a line every operation's defining
equation holds of the contents reached, all at once, so what the line computes can be reasoned about
as a system of equations: no operation's effect has to be replayed.
-/

namespace Cert.Proof.Line

open Idealize.ShloMosaic Idealize.ShloMosaic.StableHlo Idealize.SL.Sem

variable {nD : ℕ} {τ : Topo} {sig : RefSig} {Val : EltTy → Type} {Λ : Labels}

/-- The number of a buffer. -/
def num (b : DevRef τ sig) : ℕ := b.idx.val

/-- The number of a TensorCore reference's buffer. -/
def no (r : Ref sig .tc) : ℕ := r.idx.val

/-- The number of a reference is that of the buffer it names. -/
theorem num_devRef (r : Ref sig .tc) : num (Proc.devRef (τ := τ) .tc r) = no r := rfl

/-- The contents of a reference's buffer. -/
def bf (r : Ref sig .tc) (W : Valuation τ sig Val) : r.ty.Contents Val := W (Proc.devRef .tc r)

/-- The contents of a typed reference's buffer, at the type of the value it holds. -/
def rd {T : BufTy} (x : TRef sig T) (W : Valuation τ sig Val) : T.Contents Val := x.ofBuf (bf x.ref W)

/-- A typed reference reads back what is written at it. -/
theorem ofBuf_toBuf {T : BufTy} (x : TRef sig T) (v : T.Contents Val) : x.ofBuf (x.toBuf v) = v := by
  unfold TRef.ofBuf TRef.toBuf
  rw [cast_cast, cast_eq]

/-- `ops` is a line of operations that fills buffers numbered from `lo` up to `hi` only, leaves every buffer of a
    smaller number as it was, and after which `Φ` holds of the contents, whatever buffers numbered `hi` or more hold. -/
structure Steps (ops : List (HloOp τ sig Val)) (lo hi : ℕ) (Φ : Valuation τ sig Val → Prop) : Prop where
  le : lo ≤ hi
  bufs : ops.Forall fun op => op.bufs ⊆ tcRefs τ sig
  fresh : ∀ op ∈ ops, op.fresh = ∅
  keep : ∀ V b, num b < lo → after ops V b = V b
  holds : ∀ V W, (∀ b, num b < hi → W b = after ops V b) → Φ W

/-- The contents after two lists of operations, one after the other. -/
theorem after_append (ops ops' : List (HloOp τ sig Val)) (V : Valuation τ sig Val) :
    after (ops ++ ops') V = after ops' (after ops V) := by
  induction ops generalizing V with
  | nil => rfl
  | cons op ops ih => exact ih _

/-- One line after the other: both lines' facts hold at the end. -/
theorem Steps.append {ops ops' : List (HloOp τ sig Val)} {lo mid mid' hi : ℕ} {Φ Ψ : Valuation τ sig Val → Prop}
    (h : Steps ops lo mid Φ) (hm : mid ≤ mid') (h' : Steps ops' mid' hi Ψ) :
    Steps (ops ++ ops') lo hi fun W => Φ W ∧ Ψ W where
  le := h.le.trans (hm.trans h'.le)
  bufs := List.forall_append.2 ⟨h.bufs, h'.bufs⟩
  fresh := fun op hop => (List.mem_append.1 hop).elim (h.fresh op) (h'.fresh op)
  keep := fun V b hb => by
    have hle := h.le
    rw [after_append, h'.keep _ b (by omega), h.keep V b hb]
  holds := fun V W hW => by
    have hle := h'.le
    rw [after_append] at hW
    exact ⟨h.holds V W fun b hb => (hW b (by omega)).trans (h'.keep _ b (by omega)), h'.holds _ W hW⟩

/-- The line of no operation. -/
theorem Steps.nil (n : ℕ) : Steps ([] : List (HloOp τ sig Val)) n n fun _ => True where
  le := le_rfl
  bufs := trivial
  fresh := fun _ h => nomatch h
  keep := fun _ _ _ => rfl
  holds := fun _ _ _ => trivial

/-- One operation before a line. -/
theorem Steps.cons {op : HloOp τ sig Val} {ops : List (HloOp τ sig Val)} {lo mid mid' hi : ℕ}
    {Φ Ψ : Valuation τ sig Val → Prop} (h : Steps [op] lo mid Φ) (hm : mid ≤ mid') (h' : Steps ops mid' hi Ψ) :
    Steps (op :: ops) lo hi fun W => Φ W ∧ Ψ W :=
  h.append hm h'

/-- A weaker fact about a line. -/
theorem Steps.mono {ops : List (HloOp τ sig Val)} {lo hi : ℕ} {Φ Ψ : Valuation τ sig Val → Prop}
    (h : Steps ops lo hi Φ) (hΨ : ∀ W, Φ W → Ψ W) : Steps ops lo hi Ψ :=
  { h with holds := fun V W hW => hΨ W (h.holds V W hW) }

/-- One operation, writing the buffer of `y`: its fact is read off its result. -/
theorem Steps.single {op : HloOp τ sig Val} {y : Ref sig .tc} {Φ : Valuation τ sig Val → Prop}
    (hb : op.bufs ⊆ tcRefs τ sig) (hf : op.fresh = ∅) (hw : op.writes = {Proc.devRef .tc y})
    (h : ∀ V W, (∀ x : Ref sig .tc, no x < no y → bf x W = bf x V) → bf y W = op.result V (Proc.devRef .tc y) → Φ W) :
    Steps [op] (no y) (no y + 1) Φ := by
  have hkeep : ∀ V b, num b < no y → op.result V b = V b := fun V b hb => by
    refine op.result_of_not_mem V ?_
    rw [hw, Finset.mem_singleton]
    rintro rfl
    rw [num_devRef] at hb
    omega
  refine ⟨Nat.le_succ _, hb, ?_, hkeep, fun V W hW => ?_⟩
  · intro o ho
    rw [List.mem_singleton.1 ho, hf]
  · refine h V W (fun x hx => ?_) (hW (Proc.devRef .tc y) (Nat.lt_succ_self _))
    exact (hW (Proc.devRef .tc x) (Nat.lt_succ_of_lt hx)).trans (hkeep V (Proc.devRef .tc x) hx)

section Plain

variable {x a b c y : Ref sig .tc}

theorem Steps.nullary {v : y.ty.Contents Val} {hy} :
    Steps [StableHlo.nullary (τ := τ) y v hy] (no y) (no y + 1) fun W => bf y W = v :=
  .single (by simp) rfl rfl fun V W _ hy' => hy'.trans (nullary_result y v hy V)

theorem Steps.unary {f : x.ty.Contents Val → y.ty.Contents Val} {hx hy} (h : no x < no y) :
    Steps [StableHlo.unary (τ := τ) x y f hx hy] (no y) (no y + 1) fun W => bf y W = f (bf x W) :=
  .single (by simp) rfl rfl fun V W hV hy' => by
    rw [hV x h]; exact hy'.trans (unary_result x y f hx hy V)

theorem Steps.binary {f : a.ty.Contents Val → b.ty.Contents Val → y.ty.Contents Val} {ha hb hy}
    (h : no a < no y ∧ no b < no y) :
    Steps [StableHlo.binary (τ := τ) a b y f ha hb hy] (no y) (no y + 1) fun W => bf y W = f (bf a W) (bf b W) :=
  .single (by simp) rfl rfl fun V W hV hy' => by
    rw [hV a h.1, hV b h.2]; exact hy'.trans (binary_result a b y f ha hb hy V)

theorem Steps.ternary {f : c.ty.Contents Val → a.ty.Contents Val → b.ty.Contents Val → y.ty.Contents Val} {hc ha hb hy}
    (h : no c < no y ∧ no a < no y ∧ no b < no y) :
    Steps [StableHlo.ternary (τ := τ) c a b y f hc ha hb hy] (no y) (no y + 1)
      fun W => bf y W = f (bf c W) (bf a W) (bf b W) :=
  .single (by simp) rfl rfl fun V W hV hy' => by
    rw [hV c h.1, hV a h.2.1, hV b h.2.2]; exact hy'.trans (ternary_result c a b y f hc ha hb hy V)

theorem Steps.reshape {he : x.ty.elt = y.ty.elt} {hn : x.ty.shape.ShapeCasts y.ty.shape} {hx hy} (h : no x < no y) :
    Steps [StableHlo.reshape (τ := τ) (Val := Val) x y he hn hx hy] (no y) (no y + 1)
      fun W => bf y W = fun i => he ▸ shapeCast y.ty.shape (bf x W) hn i :=
  .single (by simp) rfl rfl fun V W hV hy' => by
    rw [hV x h]; exact hy'.trans (reshape_result x y he hn hx hy V)

end Plain

section Typed

variable {Tx Ta Tb Tc Ty : BufTy} {x : TRef sig Tx} {a : TRef sig Ta} {b : TRef sig Tb} {c : TRef sig Tc} {y : TRef sig Ty}

theorem Steps.tnullary {v : Ty.Contents Val} :
    Steps [TRef.nullary (τ := τ) y v] (no y.ref) (no y.ref + 1) fun W => rd y W = v :=
  Steps.nullary.mono fun W h => by rw [rd, h, ofBuf_toBuf]

theorem Steps.tunary {f : Tx.Contents Val → Ty.Contents Val} (h : no x.ref < no y.ref) :
    Steps [TRef.unary (τ := τ) x y f] (no y.ref) (no y.ref + 1) fun W => rd y W = f (rd x W) :=
  (Steps.unary h).mono fun W h => by rw [rd, h, ofBuf_toBuf]; rfl

theorem Steps.tbinary {f : Ta.Contents Val → Tb.Contents Val → Ty.Contents Val}
    (h : no a.ref < no y.ref ∧ no b.ref < no y.ref) :
    Steps [TRef.binary (τ := τ) a b y f] (no y.ref) (no y.ref + 1) fun W => rd y W = f (rd a W) (rd b W) :=
  (Steps.binary h).mono fun W h => by rw [rd, h, ofBuf_toBuf]; rfl

theorem Steps.tternary {f : Tc.Contents Val → Ta.Contents Val → Tb.Contents Val → Ty.Contents Val}
    (h : no c.ref < no y.ref ∧ no a.ref < no y.ref ∧ no b.ref < no y.ref) :
    Steps [TRef.ternary (τ := τ) c a b y f] (no y.ref) (no y.ref + 1)
      fun W => rd y W = f (rd c W) (rd a W) (rd b W) :=
  (Steps.ternary h).mono fun W h => by rw [rd, h, ofBuf_toBuf]; rfl

end Typed

/-! One operation before a line, for each kind of operation: the line after it comes first among the premises, so that
    a whole list is gone through from its head. -/

section Before

variable {ops : List (HloOp τ sig Val)} {mid hi : ℕ} {Ψ : Valuation τ sig Val → Prop}

section Plain

variable {x a b c y : Ref sig .tc}

theorem Steps.nullary_cons {v : y.ty.Contents Val} {hy} (hk : Steps ops mid hi Ψ) (h : no y < mid) :
    Steps (StableHlo.nullary (τ := τ) y v hy :: ops) (no y) hi fun W => bf y W = v ∧ Ψ W :=
  Steps.nullary.cons h hk

theorem Steps.unary_cons {f : x.ty.Contents Val → y.ty.Contents Val} {hx hy} (hk : Steps ops mid hi Ψ)
    (h : no x < no y ∧ no y < mid) :
    Steps (StableHlo.unary (τ := τ) x y f hx hy :: ops) (no y) hi fun W => bf y W = f (bf x W) ∧ Ψ W :=
  (Steps.unary h.1).cons h.2 hk

theorem Steps.binary_cons {f : a.ty.Contents Val → b.ty.Contents Val → y.ty.Contents Val} {ha hb hy}
    (hk : Steps ops mid hi Ψ) (h : (no a < no y ∧ no b < no y) ∧ no y < mid) :
    Steps (StableHlo.binary (τ := τ) a b y f ha hb hy :: ops) (no y) hi
      fun W => bf y W = f (bf a W) (bf b W) ∧ Ψ W :=
  (Steps.binary h.1).cons h.2 hk

theorem Steps.reshape_cons {he : x.ty.elt = y.ty.elt} {hn : x.ty.shape.ShapeCasts y.ty.shape} {hx hy}
    (hk : Steps ops mid hi Ψ) (h : no x < no y ∧ no y < mid) :
    Steps (StableHlo.reshape (τ := τ) (Val := Val) x y he hn hx hy :: ops) (no y) hi
      fun W => (bf y W = fun i => he ▸ shapeCast y.ty.shape (bf x W) hn i) ∧ Ψ W :=
  (Steps.reshape h.1).cons h.2 hk

end Plain

section Typed

variable {Tx Ta Tb Tc Ty : BufTy} {x : TRef sig Tx} {a : TRef sig Ta} {b : TRef sig Tb} {c : TRef sig Tc} {y : TRef sig Ty}

theorem Steps.tnullary_cons {v : Ty.Contents Val} (hk : Steps ops mid hi Ψ) (h : no y.ref < mid) :
    Steps (TRef.nullary (τ := τ) y v :: ops) (no y.ref) hi fun W => rd y W = v ∧ Ψ W :=
  Steps.tnullary.cons h hk

theorem Steps.tunary_cons {f : Tx.Contents Val → Ty.Contents Val} (hk : Steps ops mid hi Ψ)
    (h : no x.ref < no y.ref ∧ no y.ref < mid) :
    Steps (TRef.unary (τ := τ) x y f :: ops) (no y.ref) hi fun W => rd y W = f (rd x W) ∧ Ψ W :=
  (Steps.tunary h.1).cons h.2 hk

theorem Steps.tbinary_cons {f : Ta.Contents Val → Tb.Contents Val → Ty.Contents Val} (hk : Steps ops mid hi Ψ)
    (h : (no a.ref < no y.ref ∧ no b.ref < no y.ref) ∧ no y.ref < mid) :
    Steps (TRef.binary (τ := τ) a b y f :: ops) (no y.ref) hi fun W => rd y W = f (rd a W) (rd b W) ∧ Ψ W :=
  (Steps.tbinary h.1).cons h.2 hk

theorem Steps.tternary_cons {f : Tc.Contents Val → Ta.Contents Val → Tb.Contents Val → Ty.Contents Val}
    (hk : Steps ops mid hi Ψ) (h : (no c.ref < no y.ref ∧ no a.ref < no y.ref ∧ no b.ref < no y.ref) ∧ no y.ref < mid) :
    Steps (TRef.ternary (τ := τ) c a b y f :: ops) (no y.ref) hi
      fun W => rd y W = f (rd c W) (rd a W) (rd b W) ∧ Ψ W :=
  (Steps.tternary h.1).cons h.2 hk

end Typed

/-- A line of known facts before a line. -/
theorem Steps.append_cons {ops' : List (HloOp τ sig Val)} {lo m : ℕ} {Φ : Valuation τ sig Val → Prop}
    (h' : Steps ops' lo m Φ) (hk : Steps ops mid hi Ψ) (h : m ≤ mid) :
    Steps (ops' ++ ops) lo hi fun W => Φ W ∧ Ψ W :=
  h'.append h hk

end Before

/-- Two programs of operations, one after the other. -/
theorem isSeq_append {p k : Prog (TpuEff nD τ sig Val Λ .tc) PUnit} {ops ops' : List (HloOp τ sig Val)}
    (h : IsSeq p ops) (h' : IsSeq k ops') : IsSeq (p >>= fun _ => k) (ops ++ ops') := by
  unfold IsSeq at h h' ⊢
  rw [h, h', seq_append]

/-- A program of one operation. -/
theorem isSeq_one {op : HloOp τ sig Val} :
    IsSeq (nD := nD) (Λ := Λ) (hlo rfl op fun _ => .ret (⟨⟩ : PUnit)) [op] := rfl

/-- The program `p` followed by the line `l'` is the line `l`: `l` is `p`'s operations before `l'`. -/
def Ext (p : Prog (TpuEff nD τ sig Val Λ .tc) PUnit) (l l' : List (HloOp τ sig Val)) : Prop :=
  (p >>= fun _ => seq l') = seq l

/-- One operation at the end of a program. -/
theorem Ext.one {op : HloOp τ sig Val} {l' : List (HloOp τ sig Val)} :
    Ext (nD := nD) (Λ := Λ) (hlo rfl op fun _ => .ret (⟨⟩ : PUnit)) (op :: l') l' := rfl

/-- One operation at the head of a program. -/
theorem Ext.cons {op : HloOp τ sig Val} {k : Prog (TpuEff nD τ sig Val Λ .tc) PUnit} {l l' : List (HloOp τ sig Val)}
    (h : Ext k l l') : Ext ((hlo rfl op fun _ => .ret (⟨⟩ : PUnit)) >>= fun _ => k) (op :: l) l' := by
  unfold Ext at h ⊢
  rw [seq, ← h]
  rfl

/-- A program of operations before a line. -/
theorem isSeq_ext {p k : Prog (TpuEff nD τ sig Val Λ .tc) PUnit} {l l' : List (HloOp τ sig Val)}
    (h' : IsSeq k l') (h : Ext p l l') : IsSeq (p >>= fun _ => k) l := by
  unfold IsSeq at h' ⊢
  rw [h', h]

end Cert.Proof.Line
-- ==== Proof.Threefry.lean ====
module

public import proofs.«01_k».proof.Defs
public import proofs.«01_k».proof.Proof.Line

@[expose] public section

/-!
The counter-based random word generator of the reference, block cipher of twenty rounds on pairs of 32-bit words: its two
steps on words, and the groups of array operations that carry a step out on 64 pairs at once.
-/

namespace Cert.Proof.Threefry

open Idealize.ShloMosaic Idealize.ShloMosaic.StableHlo Cert.Proof.Line
open Cert.ReferenceIdeal (S_ S64)

/-- One round on a pair of words: add, rotate, exclusive or. The rotation is given by its two shift amounts. -/
def mix (r r' : BitVec 32) (p : BitVec 32 × BitVec 32) : BitVec 32 × BitVec 32 :=
  (p.1 + p.2, (p.1 + p.2) ^^^ (p.2 <<< r ||| p.2 >>> r'))

/-- The key words `k`, `k'` and the round group's number `c` added to a pair of words. -/
def inject (k k' c : BitVec 32) (p : BitVec 32 × BitVec 32) : BitVec 32 × BitVec 32 :=
  (p.1 + k, p.2 + k' + c)

/-- Four rounds with the first set of rotations. -/
def roundsA (p : BitVec 32 × BitVec 32) : BitVec 32 × BitVec 32 := mix 6 26 (mix 26 6 (mix 15 17 (mix 13 19 p)))

/-- Four rounds with the second set of rotations. -/
def roundsB (p : BitVec 32 × BitVec 32) : BitVec 32 × BitVec 32 := mix 24 8 (mix 16 16 (mix 29 3 (mix 17 15 p)))

/-- The third key word. -/
def key2 (k k' : BitVec 32) : BitVec 32 := k ^^^ k' ^^^ 466688986

/-- The generator: the key words added, then five groups of four rounds, each followed by the key words in turn. -/
def encrypt (k k' : BitVec 32) (p : BitVec 32 × BitVec 32) : BitVec 32 × BitVec 32 :=
  inject (key2 k k') k 5 <| roundsA <| inject k' (key2 k k') 4 <| roundsB <| inject k k' 3 <| roundsA <|
  inject (key2 k k') k 2 <| roundsB <| inject k' (key2 k k') 1 <| roundsA (p.1 + k, p.2 + k')

/-- The two counter words of draw number `n`: the high and the low word of `n` as a 64-bit number. -/
def counter (n : ℕ) : BitVec 32 × BitVec 32 :=
  ((IntOp.shrui .host (1#64 * BitVec.ofNat 64 n) 32#64).setWidth 32, (1#64 * BitVec.ofNat 64 n).setWidth 32)

/-- The 23 random bits of a draw: the two words' exclusive or, its low nine bits dropped. -/
def draw (p : BitVec 32 × BitVec 32) : BitVec 32 := IntOp.shrui .host (p.1 ^^^ p.2) 9#32

variable {τ : Topo} {sig : RefSig} {F : FTy → Type}

/-- The pair of words at index `i` of two arrays. -/
def pair (x y : TRef sig ⟨S64, .i32⟩) (W : Valuation τ sig (Elt F)) (i : S64.Idx) : BitVec 32 × BitVec 32 :=
  (rd x W i, rd y W i)

/-- The one word of a scalar's buffer. -/
def word (x : TRef sig ⟨S_, .i32⟩) (W : Valuation τ sig (Elt F)) : BitVec 32 := rd x W fun a => a.elim0

/-- A scalar spread over an array is its one word everywhere. -/
theorem bcast_apply {t : Shape} {α : Type} (h : S_.BroadcastsInDim t ![]) (x : S_.Idx → α) (i : t.Idx) :
    broadcastInDim t ![] h x i = x fun a => a.elim0 := by
  unfold broadcastInDim
  exact congrArg x (funext fun a => a.elim0)

/-- The scalar spread over an array, read through the buffers. -/
theorem rd_bcast {x : TRef sig ⟨S_, .i32⟩} {y : TRef sig ⟨S64, .i32⟩} {W : Valuation τ sig (Elt F)}
    {hb : S_.BroadcastsInDim S64 ![]}
    (h : rd y W = broadcastInDim S64 ![] hb (rd x W)) (i : S64.Idx) : rd y W i = word x W := by
  rw [h]; exact bcast_apply hb (rd x W) i

/-- A constant's word. -/
theorem word_const {x : TRef sig ⟨S_, .i32⟩} {W : Valuation τ sig (Elt F)} {c : BitVec 32}
    (h : rd x W = constantI S_ 32 c) : word x W = c := by
  rw [word, h]; rfl

section Groups

variable {a b s d l d' q o y : TRef sig ⟨S64, .i32⟩} {c c' : TRef sig ⟨S_, .i32⟩} {r r' : BitVec 32}
  {hb hb' : S_.BroadcastsInDim S64 ![]} {ops : List (HloOp τ sig (Elt F))} {mid hi : ℕ}
  {Ψ : Valuation τ sig (Elt F) → Prop}

/-- The nine operations of one round, before a line. -/
theorem steps_mix (hk : Steps ops mid hi Ψ) (hr : r.toNat < 32 ∧ r'.toNat < 32)
    (h : (no a.ref < no s.ref ∧ no b.ref < no s.ref ∧ no s.ref < no c.ref ∧ no c.ref < no d.ref ∧ no d.ref < no l.ref)
      ∧ (no l.ref < no c'.ref ∧ no c'.ref < no d'.ref ∧ no d'.ref < no q.ref ∧ no q.ref < no o.ref ∧ no o.ref < no y.ref)
      ∧ no y.ref < mid) :
    Steps (TRef.binary a b s addi :: TRef.nullary c (constantI S_ 32 r) :: TRef.unary c d (broadcastInDim S64 ![] hb)
      :: TRef.binary b d l Host.shli :: TRef.nullary c' (constantI S_ 32 r') :: TRef.unary c' d' (broadcastInDim S64 ![] hb')
      :: TRef.binary b d' q Host.shrui :: TRef.binary l q o ori :: TRef.binary s o y xori :: ops) (no s.ref) hi
      fun W => (∀ i, pair s y W i = mix r r' (pair a b W i)) ∧ Ψ W := by
  refine ((Steps.tbinary ⟨?_, ?_⟩).cons ?_ <| Steps.tnullary.cons ?_ <| (Steps.tunary ?_).cons ?_ <|
    (Steps.tbinary ⟨?_, ?_⟩).cons ?_ <| Steps.tnullary.cons ?_ <| (Steps.tunary ?_).cons ?_ <|
    (Steps.tbinary ⟨?_, ?_⟩).cons ?_ <| (Steps.tbinary ⟨?_, ?_⟩).cons ?_ <|
    (Steps.tbinary ⟨?_, ?_⟩).cons ?_ hk).mono ?_
  all_goals try omega
  rintro W ⟨hs, hc, hd, hl, hc', hd', hq, ho, hy, hΨ⟩
  refine ⟨fun i => ?_, hΨ⟩
  have e := rd_bcast hd i
  have e' := rd_bcast hd' i
  rw [word_const hc] at e
  rw [word_const hc'] at e'
  have hsi : rd s W i = rd a W i + rd b W i := congrFun hs i
  have hli : rd l W i = rd b W i <<< r := by
    rw [hl]; change IntOp.shli .host (rd b W i) (rd d W i) = _; rw [e]; exact if_pos hr.1
  have hqi : rd q W i = rd b W i >>> r' := by
    rw [hq]; change IntOp.shrui .host (rd b W i) (rd d' W i) = _; rw [e']; exact if_pos hr.2
  have hyi : rd y W i = rd s W i ^^^ (rd l W i ||| rd q W i) := by
    rw [hy]; change rd s W i ^^^ rd o W i = _; rw [ho]; rfl
  unfold pair mix
  rw [hyi, hsi, hli, hqi]

/-- The seven operations that add two key words and a round group's number, before a line. -/
theorem steps_inject {k k' : TRef sig ⟨S_, .i32⟩} {hb'' : S_.BroadcastsInDim S64 ![]}
    (hk : Steps ops mid hi Ψ)
    (h : (no k.ref < no d.ref ∧ no a.ref < no s.ref ∧ no d.ref < no s.ref ∧ no s.ref < no d'.ref ∧ no k'.ref < no d'.ref)
      ∧ (no b.ref < no l.ref ∧ no d'.ref < no l.ref ∧ no l.ref < no c.ref ∧ no c.ref < no q.ref ∧ no q.ref < no y.ref)
      ∧ no y.ref < mid) :
    Steps (TRef.unary k d (broadcastInDim S64 ![] hb) :: TRef.binary a d s addi
      :: TRef.unary k' d' (broadcastInDim S64 ![] hb') :: TRef.binary b d' l addi
      :: TRef.nullary c (constantI S_ 32 r) :: TRef.unary c q (broadcastInDim S64 ![] hb'')
      :: TRef.binary l q y addi :: ops) (no d.ref) hi
      fun W => (∀ i, pair s y W i = inject (word k W) (word k' W) r (pair a b W i)) ∧ Ψ W := by
  refine ((Steps.tunary ?_).cons ?_ <| (Steps.tbinary ⟨?_, ?_⟩).cons ?_ <| (Steps.tunary ?_).cons ?_ <|
    (Steps.tbinary ⟨?_, ?_⟩).cons ?_ <| Steps.tnullary.cons ?_ <| (Steps.tunary ?_).cons ?_ <|
    (Steps.tbinary ⟨?_, ?_⟩).cons ?_ hk).mono ?_
  all_goals try omega
  rintro W ⟨hd, hs, hd', hl, hc, hq, hy, hΨ⟩
  refine ⟨fun i => ?_, hΨ⟩
  have e := rd_bcast hq i
  rw [word_const hc] at e
  have hsi : rd s W i = rd a W i + word k W := by rw [← rd_bcast hd i, hs]; rfl
  have hli : rd l W i = rd b W i + word k' W := by rw [← rd_bcast hd' i, hl]; rfl
  have hyi : rd y W i = rd l W i + r := by rw [← e, hy]; rfl
  unfold pair inject
  rw [hyi, hsi, hli]

end Groups

end Cert.Proof.Threefry
-- ==== Proof.ReferenceThreefry.lean ====
module

public import proofs.«01_k».proof.Proof.Threefry

@[expose] public section

/-!
The reference's call of the random word generator: a line of 223 operations, and the words it ends with.
-/

noncomputable section

namespace Cert.Proof.ReferenceThreefry

open Idealize.ShloMosaic Idealize.ShloMosaic.StableHlo Idealize.SL.Sem
open Cert.ReferenceIdeal Cert.Proof.Line Cert.Proof.Threefry

variable {F : FTy → Type} [FloatOps F] [Facts]

/-- The call of the generator is a line of operations that writes the buffers numbered 34 to 255, and ends with the
    generator's two words of each pair of counter words, under the two key words. -/
theorem body_steps :
    ∃ ops, IsSeq (fn_threefry2x32.body (F := F) main_call0.v5 main_call0.v7 main_call0.v14 main_call0.v13 main_call0_call0) ops
      ∧ Steps ops 34 256 fun W => ∀ i, pair main_call0_call0.v171 main_call0_call0.v175 W i
          = encrypt (word main_call0.v5 W) (word main_call0.v7 W) (pair main_call0.v14 main_call0.v13 W i) := by
  apply Exists.intro
  apply And.intro
  · unfold fn_threefry2x32.body
    iterate 3 apply isSeq_ext
    · unfold fn_threefry2x32.body_part3
      repeat (first | exact IsSeq.nil | apply IsSeq.cons)
    · unfold fn_threefry2x32.body_part2
      repeat (first | exact Ext.one | apply Ext.cons)
    · unfold fn_threefry2x32.body_part1
      repeat (first | exact Ext.one | apply Ext.cons)
    · unfold fn_threefry2x32.body_part0
      repeat (first | exact Ext.one | apply Ext.cons)
  apply Steps.mono
  · apply Steps.tbinary_cons
    · repeat (first | apply steps_mix | apply steps_inject | apply Steps.tnullary_cons | apply Steps.tunary_cons | apply Steps.tbinary_cons)
      · exact Steps.nil 256
      all_goals decide
    · decide
  · rintro W ⟨h0, hc, h1, h2, h3, h4, h5, a1, a2, a3, a4, a5, b1, b2, b3, b4, b5, c1, c2, c3, c4, c5, d1, d2, d3, d4, d5,
      e1, e2, e3, e4, e5, -⟩ i
    have hk : word main_call0_call0.v1 W = key2 (word main_call0.v5 W) (word main_call0.v7 W) := by
      rw [word, h1, h0, hc]; rfl
    have hs : pair main_call0_call0.v3 main_call0_call0.v5 W i
        = (rd main_call0.v14 W i + word main_call0.v5 W, rd main_call0.v13 W i + word main_call0.v7 W) := by
      rw [← rd_bcast h2 i, ← rd_bcast h4 i, pair, h3, h5]; rfl
    rw [e5, e4, e3, e2, e1, d5, d4, d3, d2, d1, c5, c4, c3, c2, c1, b5, b4, b3, b2, b1, a5, a4, a3, a2, a1, hs, hk]
    rfl

end Cert.Proof.ReferenceThreefry
-- ==== Proof.ReferenceLine.lean ====
module

public import proofs.«01_k».proof.Proof.ReferenceThreefry

@[expose] public section

/-!
The reference as one line of operations: the equations its functions' buffers satisfy at the end.
-/

noncomputable section

namespace Cert.Proof.ReferenceLine

open Idealize.ShloMosaic Idealize.ShloMosaic.StableHlo Idealize.SL.Sem
open Cert.ReferenceIdeal Cert.ReferenceIdeal.Facts₀ Cert.Proof.Line Cert.Proof.Threefry

variable {F : FTy → Type} [FloatOps F] [Facts]

/-- What a scalar's buffer holds. -/
def scalar {e : EltTy} (x : TRef sig ⟨S_, e⟩) (W : Valuation τ sig (Elt F)) : Elt F e := rd x W fun a => a.elim0

/-- The key word number `j`. -/
def keyWord (j : Fin 2) (W : Valuation τ sig (Elt F)) : BitVec 32 :=
  rd (T := ⟨S2, .i32⟩) (.of main_v10) W (fun | 0 => j)

/-- The draw of 64 uniform numbers is a line of operations that writes the buffers numbered 17 to 273. It ends with one
    number per draw: random bits below the exponent of one, less one, stretched to the range and cut off below. -/
theorem uniform_steps :
    ∃ ops, IsSeq (fn_uniform.body (F := F) (.of main_v10) (.of main_cst) (.of main_cst_2) main_call0) ops
      ∧ Steps ops 17 274 fun W => ∀ i : S64.Idx, rd main_call0.v30 W i
        = FloatOps.maximumf (φ := .f32) (scalar (.of main_cst) W)
          (FloatOps.addf
            (FloatOps.mulf
              (FloatOps.subf
                (FloatOps.ofBits .f32 (draw (encrypt (keyWord 0 W)
                  (keyWord 1 W) (counter (i 0).val)) ||| 1065353216#32))
                (FloatOps.ofBits .f32 0x3F800000#32))
              (FloatOps.subf (scalar (.of main_cst_2) W) (scalar (.of main_cst) W)))
            (scalar (.of main_cst) W)) := by
  obtain ⟨ops, hseq, hsteps⟩ := ReferenceThreefry.body_steps (F := F)
  apply Exists.intro
  apply And.intro
  · unfold fn_uniform.body
    iterate 17 apply IsSeq.cons
    apply isSeq_append hseq
    repeat (first | exact IsSeq.nil | apply IsSeq.cons)
  apply Steps.mono
  · apply Steps.tunary_cons
    · repeat (first | apply Steps.tnullary_cons | apply Steps.tunary_cons | apply Steps.tbinary_cons | apply Steps.reshape_cons | apply Steps.append_cons hsteps)
      · exact Steps.nil 274
      all_goals decide
    · decide
  · rintro W ⟨h0, h1, h2, h3, h4, h5, h6, h7, h8, hc, h9, h10, hc0, h11, h12, h13, h14, ht, h16, hc1, h17, h18, hc2, h19, h20,
      h21, hcst, h22, h23, h24, h25, h26, h27, h28, h29, h30, -⟩ i
    have hk : word main_call0.v5 W = keyWord 0 W := by
      refine (congrFun h5 fun a => a.elim0).trans ((congrFun h4 _).trans (congrArg (rd (.of main_v10) W) (funext fun a => ?_)))
      have ha : a = 0 := Subsingleton.elim _ _
      subst ha
      exact Fin.ext (congrArg (0 + ·) (Nat.lt_one_iff.1 (Fin.isLt (n := 1) _)))
    have hk' : word main_call0.v7 W = keyWord 1 W := by
      refine (congrFun h7 fun a => a.elim0).trans ((congrFun h6 _).trans (congrArg (rd (.of main_v10) W) (funext fun a => ?_)))
      have ha : a = 0 := Subsingleton.elim _ _
      subst ha
      exact Fin.ext (congrArg (1 + ·) (Nat.lt_one_iff.1 (Fin.isLt (n := 1) _)))
    have hn : rd main_call0.v10 W i = 1#64 * BitVec.ofNat 64 (i 0).val := by
      rw [h10, h8, h9, hc]; rfl
    have hctr : pair main_call0.v14 main_call0.v13 W i = counter (i 0).val := by
      rw [pair, h14, h13, h12, h11, hc0]
      change ((IntOp.shrui .host (rd main_call0.v10 W i) 32#64).setWidth 32, (rd main_call0.v10 W i).setWidth 32) = _
      rw [hn]; rfl
    have hbits : rd main_call0.v18 W i = draw (pair main_call0_call0.v171 main_call0_call0.v175 W i) := by
      rw [h18, h16, h17, hc1]; rfl
    have h20' : rd main_call0.v20 W i = rd main_call0.v18 W i ||| 1065353216#32 := by
      rw [h20, h19, hc2]; rfl
    have hlo : ∀ j, rd main_call0.v2 W j = scalar (.of main_cst) W := fun j => by
      rw [h2, h0]; exact bcast_apply _ _ j
    have hhi : ∀ j, rd main_call0.v3 W j = scalar (.of main_cst_2) W := fun j => by
      rw [h3, h1]; exact bcast_apply _ _ j
    rw [h30]
    change FloatOps.maximumf (φ := .f32) (rd main_call0.v29 W i) (rd main_call0.v28 W i) = _
    have e29 : rd main_call0.v29 W i = scalar (.of main_cst) W := by rw [h29]; exact hlo _
    have e27 : rd main_call0.v27 W i = scalar (.of main_cst) W := by rw [h27]; exact hlo _
    have e25 : rd main_call0.v25 W i = FloatOps.subf (φ := .f32) (scalar (.of main_cst_2) W) (scalar (.of main_cst) W) := by
      rw [h25]
      refine (congrFun h24 _).trans ?_
      change FloatOps.subf (φ := .f32) (rd main_call0.v3 W _) (rd main_call0.v2 W _) = _
      rw [hlo, hhi]
    have e23 : rd main_call0.v23 W i
        = FloatOps.subf (φ := .f32) (FloatOps.ofBits .f32 (rd main_call0.v20 W i)) (FloatOps.ofBits .f32 0x3F800000#32) := by
      rw [h23, h22, hcst, h21]; rfl
    have e28 : rd main_call0.v28 W i
        = FloatOps.addf (φ := .f32) (FloatOps.mulf (φ := .f32) (rd main_call0.v23 W i) (rd main_call0.v25 W i))
          (rd main_call0.v27 W i) := by
      rw [h28, h26]; rfl
    rw [e28, e29, e27, e25, e23, h20', hbits, ht, hctr, hk, hk']

/-- The stable sort of the drawn numbers with their positions is a line of operations that writes the buffers numbered
    274 to 276. -/
theorem argsort_steps :
    ∃ ops, IsSeq (fn_argsort.body (F := F) (.of main_v11) main_call1) ops
      ∧ Steps ops 274 277 fun W => rd main_call1.v1_1 W
        = (Host.sort2 S64 0 comparator_f32_i32_d0 (rd (.of main_v11) W) (iotaInDim S64 32 0)).2 := by
  apply Exists.intro
  apply And.intro
  · unfold fn_argsort.body
    repeat (first | exact IsSeq.nil | apply IsSeq.cons)
  apply Steps.mono
  · apply Steps.tnullary_cons
    · repeat (first | apply Steps.tbinary_cons)
      · exact Steps.nil 277
      all_goals decide
    · decide
  · rintro W ⟨h0, -, h1, -⟩
    rw [h1, h0]

/-- Row numbers below 64, as words, pass the range tests of `take` and are read back as themselves. -/
theorem row_word : ∀ q : Fin 64, IntOp.cmpi .slt (BitVec.ofNat 32 q.val) 0#32 = 0#1
    ∧ IntOp.cmpi .sge (BitVec.ofNat 32 q.val) 0#32 = 1#1 ∧ IntOp.cmpi .sle (BitVec.ofNat 32 q.val) 63#32 = 1#1
    ∧ min (BitVec.ofNat 32 q.val).toInt.toNat 63 = q.val := by decide

/-- The conjunction of true bits, started at true, is true. -/
theorem reduce_true {s t u : Shape} {axes : List (Fin s.rank)} (x : IVec s 1) (v : IVec u 1) (h : s.ReducesTo axes t)
    (hu : 0 < u.numel) (hx : ∀ i, x i = 1#1) (hv : ∀ i, v i = 1#1) (j : t.Idx) : Host.reduce IntOp.andi x v h hu j = 1#1 := by
  unfold Host.reduce
  rw [hv]
  generalize (List.finRange s.numel).filter _ = l
  induction l with
  | nil => rfl
  | cons n l ih => rw [List.foldl_cons, hx]; exact ih

/-- The gather of rows, read at an index: row number `q j` of the operand when the `j`-th start index is the word of
    `q j`. -/
theorem gather_rows {α : Type} (x : S64x1x160000.Idx → α) (idx : IVec S64x1 32) (q : Fin 64 → Fin 64)
    (h : ∀ j : S64x1.Idx, idx j = BitVec.ofNat 32 (q (j 0)).val) (y : S64x1x160000.Idx) :
    Host.gather gather_S64x1x160000_S64x1_S64x1x160000_12_0_n_n_0_1_11160000 x idx y
      = x (fun | 0 => q (y 0) | 1 => y 1 | 2 => y 2) := by
  set d := gather_S64x1x160000_S64x1_S64x1x160000_12_0_n_n_0_1_11160000 with hd
  refine congrArg x (funext fun a => Fin.ext ?_)
  change d.start y idx a + d.batchCoord y a + d.offCoord y a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)),
      Nat.add_zero]
    unfold GatherDims.start
    rw [dif_pos (show (0 : Fin 3) ∈ d.startIndexMap from List.mem_singleton.mpr rfl), h]
    exact (row_word _).2.2.2
  | 1 =>
    have h1 : d.start y idx 1 = 0 := dif_neg (show (1 : Fin 3) ∉ [(0 : Fin 3)] by decide)
    rw [h1, Nat.zero_add]; rfl
  | 2 =>
    have h1 : d.start y idx 2 = 0 := dif_neg (show (2 : Fin 3) ∉ [(0 : Fin 3)] by decide)
    rw [h1, Nat.zero_add]; rfl

/-- The reading of rows by number is a line of operations that writes the buffers numbered 277 to 299. When the row
    numbers are in range, it ends with those rows. -/
theorem take_steps :
    ∃ ops, IsSeq (fn_take.body (F := F) (.of main_v1) (.of main_v12) main_call2) ops
      ∧ Steps ops 277 300 fun W => ∀ q : Fin 64 → Fin 64,
        (∀ j : S64.Idx, rd (.of main_v12) W j = BitVec.ofNat 32 (q (j 0)).val) →
        ∀ y : S64x1x160000.Idx, rd main_call2.v16 W y
            = rd (T := ⟨S64x1x160000, .f32⟩) (.of main_v1) W (fun | 0 => q (y 0) | 1 => y 1 | 2 => y 2) := by
  apply Exists.intro
  apply And.intro
  · unfold fn_take.body
    iterate 6 apply IsSeq.cons
    apply isSeq_append
    · unfold fn_where.body
      repeat (first | exact IsSeq.nil | apply IsSeq.cons)
    repeat (first | exact IsSeq.nil | apply IsSeq.cons)
  apply Steps.mono
  · apply Steps.tnullary_cons
    · repeat (first | apply Steps.tnullary_cons | apply Steps.tunary_cons | apply Steps.tbinary_cons | apply Steps.tternary_cons)
      · exact Steps.nil 300
      all_goals decide
    · decide
  · rintro W ⟨hc, h0, h1, hc0, h2, h3, hw, h5, hc1, hc2, h6, h7, h8, h9, h10, h11, hc3, h12, h13, h14, hcst, h15, h16, -⟩ q hq y
    have hsel : ∀ j : S64.Idx, rd main_call2.call0.v0 W j = BitVec.ofNat 32 (q (j 0)).val := fun j => by
      have hlt : rd main_call2.v1 W j = 0#1 := by
        rw [h1, h0, hc]
        change IntOp.cmpi .slt (rd (T := ⟨S64, .i32⟩) (.of main_v12) W j) 0#32 = 0#1
        rw [hq]; exact (row_word _).1
      rw [hw]
      change (if rd main_call2.v1 W j = 1#1 then _ else rd (T := ⟨S64, .i32⟩) (.of main_v12) W j) = _
      rw [hlt, if_neg (show ¬(0#1 = 1#1) by decide), hq]
    have hidx : ∀ j : S64x1.Idx, rd main_call2.v5 W j = BitVec.ofNat 32 (q (j 0)).val := fun j => by
      rw [h5]
      exact hsel _
    have hmask : ∀ j : S64.Idx, rd main_call2.v12 W j = 1#1 := fun j => by
      rw [h12]
      refine reduce_true _ _ _ _ (fun i => ?_) (fun i => by rw [hc3]; rfl) j
      rw [h11, h7, h10, h6, h9, h8, hc1, hc2]
      change IntOp.andi (IntOp.cmpi .sge (rd main_call2.v5 W i) 0#32) (IntOp.cmpi .sle (rd main_call2.v5 W i) 63#32) = 1#1
      rw [hidx, (row_word _).2.1, (row_word _).2.2.1]; rfl
    rw [h16]
    change (if rd main_call2.v14 W y = 1#1 then rd main_call2.v13 W y else _) = _
    rw [if_pos (by rw [h14]; exact hmask _), h13]
    exact gather_rows _ _ q hidx y

end Cert.Proof.ReferenceLine
-- ==== Proof.ReferenceMain.lean ====
module

public import proofs.«01_k».proof.Proof.ReferenceLine
public import Idealize.ShloMosaic.Lib.Pipeline.Value
public import Idealize.ShloMosaic.Lib.ValueIdxCore

@[expose] public section

/-!
The whole reference as one line of operations, and what it returns when the sort of the drawn numbers is known.
-/

noncomputable section

namespace Cert.Proof.ReferenceMain

open Idealize.ShloMosaic Idealize.ShloMosaic.StableHlo Idealize.ShloMosaic.ValueIdx Idealize.SL.Sem
open Cert.ReferenceIdeal Cert.ReferenceIdeal.Facts₀ Cert.Proof.Line Cert.Proof.Threefry Cert.Proof.ReferenceLine

variable {F : FTy → Type} [FloatOps F] [Facts]

/-- Draw number `n` of the uniform numbers on `[0, 1)` of seed 42. -/
def uniform (n : ℕ) : F .f32 :=
  FloatOps.maximumf (φ := .f32) (FloatOps.ofBits .f32 0#32)
    (FloatOps.addf
      (FloatOps.mulf
        (FloatOps.subf (FloatOps.ofBits .f32 (draw (encrypt 0#32 42#32 (counter n)) ||| 1065353216#32))
          (FloatOps.ofBits .f32 0x3F800000#32))
        (FloatOps.subf (FloatOps.ofBits .f32 0x3F800000#32) (FloatOps.ofBits .f32 0#32)))
      (FloatOps.ofBits .f32 0#32))

/-- The positions of the 64 drawn numbers in increasing order. -/
def order : IVec S64 32 :=
  (Host.sort2 (α := F .f32) (β := BitVec 32) S64 0 comparator_f32_i32_d0 (fun i => uniform (i 0).val) (iotaInDim S64 32 0)).2

/-- The result for an argument `x` when the noise rows are read in the order `q`. -/
def shuffled {α : Type} (q : Fin 64 → Fin 64) (x : S2x64x1x160000.Idx → α) : S2x64x1x160000.Idx → α :=
  fun y => if (y 0).val = 0 then x (ix4 (y 0) (q (y 1)) (y 2) (y 3)) else x y

/-- One of the two halves of the argument, its leading axis dropped, read at an index. -/
theorem half_apply {α : Type} (k : Fin 2) (x : S2x64x1x160000.Idx → α)
    (hs : S2x64x1x160000.Slices ![k.val, 0, 0, 0] S1x64x1x160000) (hc : S1x64x1x160000.ShapeCasts S64x1x160000)
    (j : S64x1x160000.Idx) :
    shapeCast S64x1x160000 (extractStridedSlice S1x64x1x160000 ![k.val, 0, 0, 0] x hs) hc j = x (ix4 k (j 0) (j 1) (j 2)) := by
  rw [shapeCast_apply _ hc j (ix4 0 (j 0) (j 1) (j 2)) (by
    rw [Shape.rowMajor_val_four, Shape.rowMajor_val_three]
    show ((0 * 64 + (j 0).val) * 1 + (j 1).val) * 160000 + (j 2).val = ((j 0).val * 1 + (j 1).val) * 160000 + (j 2).val
    omega)]
  refine extractStridedSlice_apply _ _ hs _ _ fun a => ?_
  match a with
  | 0 => rfl
  | 1 => exact (Nat.zero_add _).symm
  | 2 => exact (Nat.zero_add _).symm
  | 3 => exact (Nat.zero_add _).symm

/-- An array with a leading axis of extent one put in front, read at an index. -/
theorem front_apply {α : Type} (x : S64x1x160000.Idx → α) (h : S64x1x160000.BroadcastsInDim S1x64x1x160000 ![1, 2, 3])
    (y : S1x64x1x160000.Idx) : broadcastInDim S1x64x1x160000 ![1, 2, 3] h x y = x (ix3 (y 1) (y 2) (y 3)) := by
  refine broadcastInDim_apply _ h x y _ fun a => ?_
  match a with
  | 0 => rfl
  | 1 => exact Nat.lt_one_iff.1 (Fin.isLt (n := 1) _)
  | 2 => rfl

/-- The two halves laid one after the other, the first with its rows in the order `q`, are the shuffled argument. -/
theorem stack_eq {α : Type} (q : Fin 64 → Fin 64) (x : S2x64x1x160000.Idx → α) (u v : S64x1x160000.Idx → α)
    (hu : ∀ j, u j = x (ix4 0 (q (j 0)) (j 1) (j 2))) (hv : ∀ j, v j = x (ix4 1 (j 0) (j 1) (j 2)))
    (hf : S64x1x160000.BroadcastsInDim S1x64x1x160000 ![1, 2, 3])
    (h : Shape.Concatenates [S1x64x1x160000, S1x64x1x160000] S2x64x1x160000 0) :
    concatenate S2x64x1x160000 0 [⟨S1x64x1x160000, broadcastInDim S1x64x1x160000 ![1, 2, 3] hf u⟩,
      ⟨S1x64x1x160000, broadcastInDim S1x64x1x160000 ![1, 2, 3] hf v⟩] h = shuffled q x := by
  funext y
  unfold shuffled
  have hlt : (y 0).val < 2 := (y 0).isLt
  by_cases h0 : (y 0).val = 0
  · have e : y 0 = (0 : Fin 2) := Fin.ext h0
    rw [if_pos h0, e]
    rw [concatenate_pair_apply_left 0 _ _ h y rfl (ix4 0 (y 1) (y 2) (y 3)) fun b => ?_]
    · rw [front_apply, hu]
    · match b with
      | 0 => exact h0.symm
      | 1 => rfl
      | 2 => rfl
      | 3 => rfl
  · have e : (y 0).val = 1 := by omega
    rw [if_neg h0]
    rw [concatenate_pair_apply_right 0 _ _ h y rfl rfl (ix4 0 (y 1) (y 2) (y 3)) (fun b hb => ?_) e.symm]
    · rw [front_apply, hv]
      refine congrArg x (funext fun a => ?_)
      match a with
      | 0 => exact (Fin.ext e).symm
      | 1 => rfl
      | 2 => rfl
      | 3 => rfl
    · match b with
      | 0 => exact absurd rfl hb
      | 1 => rfl
      | 2 => rfl
      | 3 => rfl

/-- Two words laid one after the other. -/
theorem words_apply {α : Type} (x y : S1.Idx → α) (h : Shape.Concatenates [S1, S1] S2 0) :
    concatenate S2 0 [⟨S1, x⟩, ⟨S1, y⟩] h (ix1 0) = x (ix1 0) ∧ concatenate S2 0 [⟨S1, x⟩, ⟨S1, y⟩] h (ix1 1) = y (ix1 0) :=
  ⟨concatenate_pair_apply_left 0 x y h _ rfl (ix1 0) fun b => match b with | 0 => rfl,
    concatenate_pair_apply_right 0 x y h _ rfl rfl (ix1 0) (fun b hb => match b with | 0 => absurd rfl hb) rfl⟩

/-- The whole reference is a line of operations that leaves its argument alone. Its result is the argument with the noise
    rows in the order of the drawn numbers. -/
theorem main_steps :
    ∃ ops, (∀ d, IsSeq (main (F := F) d) ops)
      ∧ Steps ops 1 303 fun W => ∀ q : Fin 64 → Fin 64, (∀ j, order (F := F) j = BitVec.ofNat 32 (q (j 0)).val) →
        bf main_v16 W = shuffled q (bf main_arg0 W) := by
  obtain ⟨ops₀, hseq₀, hsteps₀⟩ := uniform_steps (F := F)
  obtain ⟨ops₁, hseq₁, hsteps₁⟩ := argsort_steps (F := F)
  obtain ⟨ops₂, hseq₂, hsteps₂⟩ := take_steps (F := F)
  apply Exists.intro
  apply And.intro
  · intro d
    unfold main
    iterate 16 apply IsSeq.cons
    apply isSeq_append hseq₀
    apply isSeq_append hseq₁
    apply isSeq_append hseq₂
    repeat (first | exact IsSeq.nil | apply IsSeq.cons)
  apply Steps.mono
  · apply Steps.unary_cons
    · iterate 15 (first | apply Steps.nullary_cons | apply Steps.unary_cons | apply Steps.binary_cons | apply Steps.reshape_cons)
      · apply Steps.append_cons hsteps₀
        · apply Steps.append_cons hsteps₁
          · apply Steps.append_cons hsteps₂
            · repeat (first | apply Steps.unary_cons | apply Steps.binary_cons)
              · exact Steps.nil 303
              all_goals decide
            · decide
          · decide
        · decide
      all_goals decide
    · decide
  · rintro W ⟨h0, h1, h2, h3, hc, hc0, h4, h5, h6, hc1, h7, h8, h9, h10, hcst, hcst2, hu, ho, ht, h14, h15, h16, -⟩ q hq
    have hkey : keyWord 0 W = 0#32 ∧ keyWord 1 W = 42#32 := by
      have hw := words_apply (bf main_v6 W) (bf main_v9 W) concatenates_S1_S1_S2_d0
      rw [← h10] at hw
      constructor
      · refine Eq.trans ?_ (hw.1.trans ?_)
        · exact congrArg (bf main_v10 W) (funext fun a => match a with | 0 => rfl)
        · rw [h6, bcast_apply, h5, h4, hc, hc0]; rfl
      · refine Eq.trans ?_ (hw.2.trans ?_)
        · exact congrArg (bf main_v10 W) (funext fun a => match a with | 0 => rfl)
        · rw [h9, bcast_apply, h8, h7, hc, hc1]; rfl
    have hz : scalar (.of main_cst) W = FloatOps.ofBits (F := F) .f32 0#32 := congrFun hcst _
    have h1' : scalar (.of main_cst_2) W = FloatOps.ofBits (F := F) .f32 0x3F800000#32 := congrFun hcst2 _
    have hkeys : rd (T := ⟨S64, .f32⟩) (.of main_v11) W = fun i : S64.Idx => uniform (F := F) (i 0).val := by
      funext i
      refine (hu i).trans ?_
      rw [hkey.1, hkey.2, hz, h1']
      rfl
    rw [hkeys] at ho
    have hrows := ht q fun j => (congrFun ho j).trans (hq j)
    rw [h16, h14, h15]
    refine stack_eq q (bf main_arg0 W) (bf main_v13 W) (bf main_v3 W) (fun j => ?_) (fun j => ?_) _ _
    · refine (hrows j).trans ?_
      change bf main_v1 W _ = _
      rw [h1, h0]
      exact half_apply 0 _ _ _ _
    · rw [h3, h2]
      exact half_apply 1 _ _ _ j

end Cert.Proof.ReferenceMain
-- ==== Proof.Sorted.lean ====
module

public import proofs.«01_k».proof.Proof.ReferenceMain
public import proofs.«01_k».proof.Proof.RowMap
public import Idealize.ShloMosaic.Lib.SortNet.HostSort
public import Idealize.ShloMosaic.Lib.IdealHost

@[expose] public section

/-!
The 64 numbers drawn with seed 42, over the extended reals, and the order that sorting them gives.
-/

noncomputable section

namespace Cert.Proof.Sorted

open Idealize.ShloMosaic Idealize.ShloMosaic.StableHlo Idealize.ShloMosaic.ValueIdx
open Cert.ReferenceIdeal Cert.ReferenceIdeal.Facts₀ Cert.Proof.Threefry Cert.Proof.ReferenceMain

variable [Facts]

/-- The 23 random bits of draw number `n`, as a number. -/
def key (n : ℕ) : ℕ := (draw (encrypt 0#32 42#32 (counter n))).toNat

/-- The noise rows in increasing order of their draws. -/
def rows : List (Fin 64) := List.ofFn perm

/-- Every noise row is listed once. -/
theorem rows_perm : rows.Perm (List.finRange 64) := by decide +kernel

/-- Along the list, the draws strictly increase from each row to the next. -/
theorem rows_chain : rows.IsChain fun a b => key a.val < key b.val := by decide +kernel

/-- Along the list, the draws strictly increase. -/
theorem rows_sorted : rows.Pairwise fun a b => key a.val < key b.val :=
  haveI : IsTrans (Fin 64) fun a b => key a.val < key b.val := ⟨fun _ _ _ => Nat.lt_trans⟩
  List.isChain_iff_pairwise.1 rows_chain

/-- A pattern with the exponent of one and the random bits below it is one plus the bits' fraction. -/
theorem ofBits_unit (p : BitVec 32 × BitVec 32) :
    Ideal.ofBits .f32 (draw p ||| 1065353216#32) = ((1 + ((draw p).toNat : ℝ) / 2 ^ 23 : ℝ) : EReal) := by
  have hs : (draw p ||| 1065353216#32).extractLsb' 31 1 = 0#1 := by
    unfold draw
    generalize p.1 ^^^ p.2 = x
    change (x >>> 9 ||| 1065353216#32).extractLsb' 31 1 = 0#1
    ext i hi
    interval_cases i
    simp
  have he : (draw p ||| 1065353216#32).extractLsb' 23 8 = 127#8 := by
    unfold draw
    generalize p.1 ^^^ p.2 = x
    change (x >>> 9 ||| 1065353216#32).extractLsb' 23 8 = 127#8
    ext i hi
    interval_cases i <;> simp
  have hf : (draw p ||| 1065353216#32).extractLsb' 0 23 = (draw p).setWidth 23 := by
    ext i hi
    interval_cases i <;> simp
  have hlt : (draw p).toNat < 2 ^ 23 := by
    unfold draw
    generalize p.1 ^^^ p.2 = x
    change (x >>> 9).toNat < 2 ^ 23
    rw [BitVec.toNat_ushiftRight, Nat.shiftRight_eq_div_pow]
    have := x.isLt
    omega
  have hn : ((draw p).setWidth 23).toNat = (draw p).toNat := by
    rw [BitVec.toNat_setWidth, Nat.mod_eq_of_lt hlt]
  change Ideal.ieee 8 23 (draw p ||| 1065353216#32) = _
  unfold Ideal.ieee
  rw [show 8 + 23 = 31 from rfl, hs, he, hf, hn]
  simp only [show (127#8).toNat = 127 from rfl]
  norm_num [-EReal.coe_add, -EReal.coe_mul]
  ring

/-- A draw is the fraction of its random bits. -/
theorem uniform_eq (n : ℕ) : uniform (F := Ideal) n = ((key n / 2 ^ 23 : ℝ) : EReal) := by
  have h0 : (0 : ℝ) ≤ key n / 2 ^ 23 := by positivity
  have h1 : uniform (F := Ideal) n = max 0 (((1 + (key n : ℝ) / 2 ^ 23 : ℝ) - (1 : EReal)) * ((1 : EReal) - 0) + 0) := by
    unfold uniform
    simp only [Ideal.ofBits_def, Ideal.addf_def, Ideal.subf_def, Ideal.mulf_def, Ideal.maximumf_def]
    rw [ofBits_unit, Ideal.ofBits_zero_f32, Ideal.ofBits_one_f32]
    rfl
  rw [h1, sub_zero, mul_one, add_zero, ← EReal.coe_one, ← EReal.coe_sub, add_sub_cancel_left]
  exact max_eq_right (EReal.coe_nonneg.2 h0)

/-- The comparator of the sort asks whether the first number is the smaller. -/
theorem comparator_eq (l r : EReal × BitVec 32) :
    comparator_f32_i32_d0 (F := Ideal) l r = BitVec.ofBool (decide (l.1 < r.1)) := by
  have hc : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := fun x => by
    have h1 : Ideal.cmp .une x x = 0#1 := by unfold Ideal.cmp; simp
    rw [h1, Scalar.select, if_neg (show ¬(0#1 = 1) by decide), Ideal.ofBits_zero_f32, Scalar.select]
    split
    · next h =>
      have hx : decide (x = 0) = true := by
        by_contra hne
        rw [Bool.not_eq_true] at hne
        unfold Ideal.cmp at h
        simp only [hne] at h
        exact absurd h (by decide)
      exact (of_decide_eq_true hx).symm
    · rfl
  exact congrArg₂ (Ideal.cmp .olt) (hc l.1) (hc r.1)

/-- A draw is below another when its random bits are. -/
theorem uniform_lt (a b : ℕ) : uniform (F := Ideal) a < uniform (F := Ideal) b ↔ key a < key b := by
  rw [uniform_eq, uniform_eq, EReal.coe_lt_coe_iff, div_lt_div_iff_of_pos_right (by positivity), Nat.cast_lt]

/-- Sorting the draws puts the noise rows in the order of the row map. -/
theorem order_eq (j : S64.Idx) : order (F := Ideal) j = BitVec.ofNat 32 (perm (j 0)).val := by
  have hb : ∀ k k' : Fin 64, (comparator_f32_i32_d0 (F := Ideal) (uniform k.val, BitVec.ofNat 32 k.val)
      (uniform k'.val, BitVec.ofNat 32 k'.val) == 1#1) = decide (key k.val < key k'.val) := fun k k' => by
    rw [comparator_eq, ← decide_eq_decide.2 (uniform_lt k.val k'.val)]
    cases decide (uniform (F := Ideal) k.val < uniform (F := Ideal) k'.val) <;> rfl
  have hr : sortedFrom (fun k k' : Fin 64 => decide (key k.val < key k'.val)) (j 0) = perm (j 0) := by
    rw [SortNet.sortedFrom_eq_getElem_of_pairwise_lt (fun k : Fin 64 => key k.val) rows rows_perm rows_sorted (j 0)
      (by unfold rows; rw [List.length_ofFn]; exact (j 0).isLt)]
    exact List.getElem_ofFn _
  refine Eq.trans ?_ (congrArg (fun k : Fin 64 => BitVec.ofNat 32 k.val) hr)
  rw [← funext₂ hb]
  unfold order Host.sort2
  rw [dif_pos (show 0 < S64.rank by decide)]
  rfl

end Cert.Proof.Sorted
-- ==== Proof.ReferenceRun.lean ====
module

public import proofs.«01_k».proof.Proof.Sorted

@[expose] public section

/-!
The run of the reference over the extended reals: it ends without fault, its argument is as it was and its result is the
argument with the noise rows permuted by the row map.
-/

noncomputable section

namespace Cert.Proof.ReferenceRun

open Idealize.ShloMosaic Idealize.ShloMosaic.StableHlo Idealize.SL.Sem
open Cert.ReferenceIdeal Cert.Proof.Line Cert.Proof.ReferenceMain

variable [Facts]

variable (m : (ℓ : Loc nD τ sig) → Buf (Elt Ideal) ℓ) (ρ : Dev nD → PrngReg)

/-- The argument's buffer on device `d`. -/
abbrev argLoc (d : Dev nD) : Loc nD τ sig := (d.tc : Thread nD τ).loc main_arg0

/-- The result's buffer on device `d`. -/
abbrev outLoc (d : Dev nD) : Loc nD τ sig := (d.tc : Thread nD τ).loc main_v16

/-- The states in which the run may end: the argument unchanged, the result the shuffled argument, and every semaphore
    counter at zero. -/
def Final : PUnit × MemSt nD τ sig (Elt Ideal) → Prop :=
  fun r => (∀ c : Dev nD, r.2.mem (argLoc c) = m (argLoc c)
    ∧ r.2.mem (outLoc c) = shuffled perm (m (argLoc c) : S2x64x1x160000.Idx → Elt Ideal .f32)) ∧ r.2.sem = fun _ => 0

/-- Every run of the reference ends, faulting nowhere, in such a state. -/
theorem run_main : θ_run (defs (F := Ideal)) (onTc (τ := τ) (main (F := Ideal))) ⟨m, fun _ => 0, ρ⟩ (Final m) := by
  obtain ⟨ops, hseq, hs⟩ := main_steps (F := Ideal)
  refine θ_run_mono (run_hlo defs main hseq (by decide) (by decide) hs.bufs hs.fresh m ρ) fun r h => ⟨fun c => ?_, ?_⟩
  · have ha : after ops (launchContents m c) (Proc.devRef .tc main_arg0) = m (argLoc c) :=
      hs.keep (launchContents m c) (Proc.devRef .tc main_arg0) Nat.zero_lt_one
    refine ⟨(h c main_arg0).trans ha, (h c main_v16).trans ?_⟩
    refine (hs.holds (launchContents m c) (after ops (launchContents m c)) (fun _ _ => rfl) perm Sorted.order_eq).trans ?_
    exact congrArg (shuffled perm) ha
  · funext s
    match s with
    | (_, .reg i) => exact i.elim0
    | (_, .dma i) => exact i.elim0

end Cert.Proof.ReferenceRun
-- ==== Proof.Agree.lean ====
module

public import proofs.«01_k».proof.Proof.KernelIdealLaunch
public import proofs.«01_k».proof.Proof.ReferenceRun

@[expose] public section

/-!
The kernel's result is the reference's: the rows that the copies move are the rows that the shuffled argument has there.
-/

noncomputable section

namespace Cert.Proof.Agree

open Idealize.ShloMosaic Idealize.ShloMosaic.ValueIdx
open Cert.KernelIdeal Cert.Proof.KernelIdealLaunch

/-- The source row of a row of the first half is the permuted row. -/
theorem srcRow_noise : ∀ b : Fin 64, srcNat b.val = (perm b).val := by decide

/-- The source row of a row of the second half is that row. -/
theorem srcRow_clean : ∀ b : Fin 64, srcNat (64 + b.val) = 64 + b.val := by decide

/-- The array of 128 rows with its rows copied by the row map is, in the argument's shape, the shuffled argument. -/
theorem permRows_eq {α : Type} (x : S2x64x1x160000.Idx → α) (h : S2x64x1x160000.ShapeCasts S128x160000)
    (h' : S128x160000.ShapeCasts S2x64x1x160000) :
    shapeCast S2x64x1x160000 (permRows (shapeCast S128x160000 x h)) h' = ReferenceMain.shuffled perm x := by
  funext y
  have h0 : (y 0).val < 2 := (y 0).isLt
  have h1 : (y 1).val < 64 := (y 1).isLt
  have h2 : (y 2).val < 1 := (y 2).isLt
  have h3 : (y 3).val < 160000 := (y 3).isLt
  rw [shapeCast_apply _ h' y (ix2 (⟨64 * (y 0).val + (y 1).val, by omega⟩ : Fin 128) (y 3)) (by
    rw [Shape.rowMajor_val_four, Shape.rowMajor_val_two]
    show (64 * (y 0).val + (y 1).val) * 160000 + (y 3).val
      = (((y 0).val * 64 + (y 1).val) * 1 + (y 2).val) * 160000 + (y 3).val
    omega)]
  have hrow : ∀ z : S2x64x1x160000.Idx, 64 * (z 0).val + (z 1).val = srcNat (64 * (y 0).val + (y 1).val) →
      (z 3).val = (y 3).val → permRows (shapeCast S128x160000 x h)
        (ix2 (⟨64 * (y 0).val + (y 1).val, by omega⟩ : Fin 128) (y 3)) = x z := fun z hz hz3 => by
    have hz2 : (z 2).val < 1 := (z 2).isLt
    refine shapeCast_apply x h _ z ?_
    rw [Shape.rowMajor_val_four, Shape.rowMajor_val_two]
    show (((z 0).val * 64 + (z 1).val) * 1 + (z 2).val) * 160000 + (z 3).val
      = srcNat (64 * (y 0).val + (y 1).val) * 160000 + (y 3).val
    omega
  unfold ReferenceMain.shuffled
  split
  · next e =>
    refine hrow _ ?_ rfl
    show 64 * (y 0).val + (perm (y 1)).val = _
    rw [e, Nat.mul_zero, Nat.zero_add, Nat.zero_add]
    exact (srcRow_noise (y 1)).symm
  · next e =>
    refine hrow y ?_ rfl
    rw [show (y 0).val = 1 by omega]
    exact (srcRow_clean (y 1)).symm

end Cert.Proof.Agree
-- ==== Proof.lean ====
/-
  The proof of `Cert.Claim`: the two frames of the kernel and the value of its result from `Proof/KernelLaunch.lean` and
  `Proof/KernelIdealLaunch.lean`, the run of the reference from `Proof/ReferenceRun.lean`, the equality of the two results
  from `Proof/Agree.lean`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.KernelLaunch
public import proofs.«01_k».proof.Proof.Agree
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel's frame on words. -/
theorem kernel_frame : quiescent_Kernel := fun m ρ _ =>
  (θ_run Cert.Kernel.defs _ _).mono (fun _ h => ⟨fun c => (h.1 c).1, h.2⟩) (KernelLaunch.run_main (F := Bits) m ρ)

/-- The kernel's frame over the extended reals. -/
theorem kernelIdeal_frame : quiescent_KernelIdeal := fun m ρ _ =>
  (θ_run Cert.KernelIdeal.defs _ _).mono (fun _ h => ⟨fun c => (h.1 c).1, h.2⟩) (KernelIdealLaunch.run_main (F := Ideal) m ρ)

/-- The reference's frame over the extended reals. -/
theorem referenceIdeal_frame : quiescent_ReferenceIdeal := fun m ρ _ =>
  (θ_run Cert.ReferenceIdeal.defs _ _).mono (fun _ h => ⟨fun c => (h.1 c).1, h.2⟩) (ReferenceRun.run_main m ρ)

/-- Over the extended reals the kernel and the reference, run on the same argument, end with the same result. -/
theorem value : algebraic_KernelIdeal_ReferenceIdeal := fun m g m' g' _ hin =>
  ⟨fun c => KernelIdealLaunch.result m c,
    (θ_run Cert.KernelIdeal.defs _ _).mono (fun _ h c => ⟨(h.1 c).2, (h.1 c).1⟩) (KernelIdealLaunch.run_main (F := Ideal) m g),
    (θ_run Cert.ReferenceIdeal.defs _ _).mono
      (fun _ h c => ⟨(h.1 c).2.trans ((congrArg (ReferenceMain.shuffled perm) (hin c)).trans (Agree.permRows_eq _ _ _).symm),
        (h.1 c).1⟩)
      (ReferenceRun.run_main m' g')⟩

/-- All five claims. -/
theorem claim : Cert.Claim := ⟨Cert.Kernel.Gen.facts, Cert.KernelIdeal.Gen.facts, Cert.ReferenceIdeal.Gen.facts,
  kernel_frame, kernelIdeal_frame, referenceIdeal_frame, trivial, value⟩

end Cert.Proof

end
